-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labelled [hPre_labelled : Cert.Pre_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labelled [hPre_labelled : Cert.Pre_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labelled [hKernelIdeal : Cert.KernelIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labelled [hReferenceIdeal : Cert.ReferenceIdeal.Facts] [hPre_labelled : Cert.Pre_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_labelled [hKernelIdeal : Cert.KernelIdeal.Facts] [hReferenceIdeal : Cert.ReferenceIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def holds_KernelIdeal_near_reference_pre_labelled [hKernelIdeal : Cert.KernelIdeal.Facts] [hPre_labelled : Cert.Pre_labelled.Facts] [hPost_near_reference : Cert.Post_near_reference.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labelled m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ (Cert.Post_near_reference.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (r.2.mem ((c.tc : Thread Cert.KernelIdeal.nD Cert.KernelIdeal.τ).loc Cert.KernelIdeal.main_v4))) = (fun _ => 1#1))

def Claim : Prop :=
  ∃ (hKernel : Cert.Kernel.Facts) (hKernelIdeal : Cert.KernelIdeal.Facts) (hReferenceIdeal : Cert.ReferenceIdeal.Facts) (hPre_labelled : Cert.Pre_labelled.Facts) (hPost_near_reference : Cert.Post_near_reference.Facts),
    quiescent_Kernel (hKernel := hKernel)
    ∧ quiescent_KernelIdeal (hKernelIdeal := hKernelIdeal)
    ∧ quiescent_KernelIdeal_pre_labelled (hKernelIdeal := hKernelIdeal) (hPre_labelled := hPre_labelled)
    ∧ quiescent_ReferenceIdeal (hReferenceIdeal := hReferenceIdeal)
    ∧ quiescent_ReferenceIdeal_pre_labelled (hReferenceIdeal := hReferenceIdeal) (hPre_labelled := hPre_labelled)
    ∧ preserves_Kernel_KernelIdeal
    ∧ algebraic_KernelIdeal_ReferenceIdeal_pre_labelled (hKernelIdeal := hKernelIdeal) (hReferenceIdeal := hReferenceIdeal) (hPre_labelled := hPre_labelled)
    ∧ holds_KernelIdeal_near_reference_pre_labelled (hKernelIdeal := hKernelIdeal) (hPre_labelled := hPre_labelled) (hPost_near_reference := hPost_near_reference)
-- ==== Post_near_reference.lean ====
abbrev S16384 : Shape := ⟨1, ![16384]⟩
abbrev S3x128 : Shape := ⟨2, ![3, 128]⟩
abbrev S64x1 : Shape := ⟨2, ![64, 1]⟩
abbrev S16384x128 : Shape := ⟨2, ![16384, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S1x64 : Shape := ⟨2, ![1, 64]⟩
abbrev S16384x64 : Shape := ⟨2, ![16384, 64]⟩

class Facts : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  transposes_S64x1_S1x64_1_0 : S64x1.Transposes [1, 0] S1x64
  bcast_S_S16384x64 : S_.BroadcastsInDim S16384x64 (![] : Fin 0 → Fin S16384x64.rank)
  concatenates_S16384x64_S16384x64_S16384x128_d1 : Shape.Concatenates [S16384x64, S16384x64] S16384x128 1
  gather_S3x128_S16384x1_S16384x128_1_0_n_n_0_1_1128_wf : GatherDims.WF S3x128 S16384x1 S16384x128 [1] [0] [] [0] [] 1 ![1, 128]
  dot_S16384x1_S1x64_S16384x64_1_0_0_1_n_n_wf : DotDims.WF S16384x1 S1x64 S16384x64 [1] [0] [0] [1] [] []

variable [Facts]

def gather_S3x128_S16384x1_S16384x128_1_0_n_n_0_1_1128 : GatherDims S3x128 S16384x1 S16384x128 where
  offsetDims := [1]
  collapsedSliceDims := [0]
  operandBatchingDims := []
  startIndicesBatchingDims := []
  startIndexMap := [0]
  indexVectorDim := 1
  sliceSizes := ![1, 128]
  wf := gather_S3x128_S16384x1_S16384x128_1_0_n_n_0_1_1128_wf
def dot_S16384x1_S1x64_S16384x64_1_0_0_1_n_n : DotDims S16384x1 S1x64 S16384x64 where
  lhsContracting := [1]
  rhsContracting := [0]
  lhsNonContracting := [0]
  rhsNonContracting := [1]
  lhsBatch := []
  rhsBatch := []
  wf := dot_S16384x1_S1x64_S16384x64_1_0_0_1_n_n_wf
def fn_where {F : FTy → Type} [FloatOps F] (arg0 : IVec S16384 1) (arg1 : IVec S16384 32) (arg2 : IVec S16384 32) : IVec S16384 32 :=
  let v0 : IVec S16384 32 := select arg0 arg1 arg2
  v0

def fn_take {F : FTy → Type} [FloatOps F] (arg0 : FVec F S3x128 .f32) (arg1 : IVec S16384 32) : FVec F S16384x128 .f32 :=
  let c : IVec S_ 32 := constantI S_ 32 0#32
  let v0 : IVec S16384 32 := broadcastInDim S16384 ![] bcast_S_S16384 c
  let v1 : IVec S16384 1 := cmpi .slt arg1 v0
  let c_0 : IVec S_ 32 := constantI S_ 32 3#32
  let v2 : IVec S16384 32 := broadcastInDim S16384 ![] bcast_S_S16384 c_0
  let v3 : IVec S16384 32 := addi arg1 v2
  let v4 : IVec S16384 32 := fn_where (F := F) v1 v3 arg1
  let v5 : IVec S16384x1 32 := broadcastInDim S16384x1 ![0] bcast_S16384_S16384x1_0 v4
  let c_1 : IVec S1 32 := constantI S1 32 2#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := (fun x v => Host.reduce IntOp.andi x v reducesTo_S16384x1_S16384_d1 h_S_) v11 c_3
  let v13 : FVec F S16384x128 .f32 := (fun x i => Host.gather gather_S3x128_S16384x1_S16384x128_1_0_n_n_0_1_1128 x i) arg0 v5
  let v14 : IVec S16384x128 1 := broadcastInDim S16384x128 ![0] bcast_S16384_S16384x128_0 v12
  let cst : FVec F S_ .f32 := constant S_ .f32 0x7FC00000#32
  let v15 : FVec F S16384x128 .f32 := broadcastInDim S16384x128 ![] bcast_S_S16384x128 cst
  let v16 : FVec F S16384x128 .f32 := select v14 v13 v15
  v16

def fn_where_0 {F : FTy → Type} [FloatOps F] (arg0 : IVec S16384 1) (arg1 : FVec F S16384 .f32) (arg2 : FVec F S16384 .f32) : FVec F S16384 .f32 :=
  let v0 : FVec F S16384 .f32 := select arg0 arg1 arg2
  v0

def fn_part1 {F : FTy → Type} [FloatOps F] (main_v18 : FVec F S16384x128 .f32) (main_v20 : FVec F S16384x128 .f32) : IVec S16384x128 1 :=
  let main_cst_2 : FVec F S_ .f32 := constant S_ .f32 0x3B449BA6#32
  let main_v21 : FVec F S16384x128 .f32 := broadcastInDim S16384x128 ![] bcast_S_S16384x128 main_cst_2
  let main_v22 : FVec F S16384x128 .f32 := addf main_v21 main_v18
  let main_v23 : IVec S16384x128 1 := cmpf .ole main_v20 main_v22
  main_v23

def fn {F : FTy → Type} [FloatOps F] (main_arg0 : IVec S16384 32) (main_arg1 : IVec S16384 32) (main_arg2 : FVec F S16384 .f32) (main_arg3 : FVec F S3x128 .f32) (main_arg4 : FVec F S3x128 .f32) (main_arg5 : FVec F S64x1 .f32) (main_arg6 : FVec F S16384x128 .f32) : IVec S16384x128 1 :=
  let main_v0 : FVec F S16384x128 .f32 := fn_take (F := F) main_arg3 main_arg0
  let main_v1 : FVec F S16384x128 .f32 := fn_take (F := F) main_arg4 main_arg1
  let main_v2 : IVec S16384 1 := cmpf .une main_arg2 main_arg2
  let main_cst : FVec F S_ .f32 := constant S_ .f32 0x00000000#32
  let main_v3 : FVec F S16384 .f32 := broadcastInDim S16384 ![] bcast_S_S16384 main_cst
  let main_v4 : FVec F S16384 .f32 := fn_where_0 (F := F) main_v2 main_v3 main_arg2
  let main_v5 : FVec F S16384x1 .f32 := broadcastInDim S16384x1 ![0] bcast_S16384_S16384x1_0 main_v4
  let main_v6 : FVec F S1x64 .f32 := (transpose S1x64 [1, 0] · transposes_S64x1_S1x64_1_0) main_arg5
  let main_v7 : FVec F S16384x64 .f32 := (fun l r => Host.dotGeneral dot_S16384x1_S1x64_S16384x64_1_0_0_1_n_n none l r) main_v5 main_v6
  let main_cst_0 : FVec F S_ .f32 := constant S_ .f32 0x40C90FDB#32
  let main_v8 : FVec F S16384x64 .f32 := broadcastInDim S16384x64 ![] bcast_S_S16384x64 main_cst_0
  let main_v9 : FVec F S16384x64 .f32 := mulf main_v8 main_v7
  let main_v10 : FVec F S16384x64 .f32 := Host.cos main_v9
  let main_v11 : FVec F S16384x64 .f32 := Host.sin main_v9
  let main_v12 : FVec F S16384x128 .f32 := (fun a b => concatenate S16384x128 1 [⟨S16384x64, a⟩, ⟨S16384x64, b⟩] concatenates_S16384x64_S16384x64_S16384x128_d1) main_v10 main_v11
  let main_v13 : FVec F S16384x128 .f32 := addf main_v0 main_v1
  let main_v14 : FVec F S16384x128 .f32 := addf main_v13 main_v12
  let main_v15 : FVec F S16384x128 .f32 := (fun a b => concatenate S16384x128 1 [⟨S16384x64, a⟩, ⟨S16384x64, b⟩] concatenates_S16384x64_S16384x64_S16384x128_d1) main_v9 main_v9
  let main_v16 : FVec F S16384x128 .f32 := Host.absf main_v15
  let main_cst_1 : FVec F S_ .f32 := constant S_ .f32 0x33D6BF95#32
  let main_v17 : FVec F S16384x128 .f32 := broadcastInDim S16384x128 ![] bcast_S_S16384x128 main_cst_1
  let main_v18 : FVec F S16384x128 .f32 := mulf main_v17 main_v16
  let main_v19 : FVec F S16384x128 .f32 := subf main_arg6 main_v14
  let main_v20 : FVec F S16384x128 .f32 := Host.absf main_v19
  fn_part1 (F := F) main_v18 main_v20
-- ==== Pre_labelled.lean ====
abbrev S16384 : Shape := ⟨1, ![16384]⟩
abbrev S3x128 : Shape := ⟨2, ![3, 128]⟩
abbrev S64x1 : Shape := ⟨2, ![64, 1]⟩
abbrev S_ : Shape := ⟨0, ![]⟩

class Facts : Prop where
  bcast_S_S16384 : S_.BroadcastsInDim S16384 (![] : Fin 0 → Fin S16384.rank)
  bcast_S_S3x128 : S_.BroadcastsInDim S3x128 (![] : Fin 0 → Fin S3x128.rank)
  bcast_S_S64x1 : S_.BroadcastsInDim S64x1 (![] : Fin 0 → Fin S64x1.rank)

variable [Facts]

def fn_part1 {F : FTy → Type} [FloatOps F] (main_arg4 : FVec F S3x128 .f32) (main_arg5 : FVec F S64x1 .f32) (main_v14 : IVec S16384 1) (main_v17 : IVec S3x128 1) : IVec S16384 1 × IVec S3x128 1 × IVec S64x1 1 :=
  let main_v18 : FVec F S3x128 .f32 := Host.absf main_arg4
  let main_cst_4 : FVec F S_ .f32 := constant S_ .f32 0x7F800000#32
  let main_v19 : FVec F S3x128 .f32 := broadcastInDim S3x128 ![] bcast_S_S3x128 main_cst_4
  let main_v20 : IVec S3x128 1 := cmpf .olt main_v18 main_v19
  let main_v21 : IVec S3x128 1 := andi main_v17 main_v20
  let main_v22 : FVec F S64x1 .f32 := Host.absf main_arg5
  let main_cst_5 : FVec F S_ .f32 := constant S_ .f32 0x7F800000#32
  let main_v23 : FVec F S64x1 .f32 := broadcastInDim S64x1 ![] bcast_S_S64x1 main_cst_5
  let main_v24 : IVec S64x1 1 := cmpf .olt main_v22 main_v23
  (main_v14, main_v21, main_v24)

def fn {F : FTy → Type} [FloatOps F] (main_arg0 : IVec S16384 32) (main_arg1 : IVec S16384 32) (main_arg2 : FVec F S16384 .f32) (main_arg3 : FVec F S3x128 .f32) (main_arg4 : FVec F S3x128 .f32) (main_arg5 : FVec F S64x1 .f32) : IVec S16384 1 × IVec S3x128 1 × IVec S64x1 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 3#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_v7 : IVec S16384 1 := andi main_v4 main_v6
  let main_c_2 : IVec S_ 32 := constantI S_ 32 3#32
  let main_v8 : IVec S16384 32 := broadcastInDim S16384 ![] bcast_S_S16384 main_c_2
  let main_v9 : IVec S16384 1 := cmpi .slt main_arg1 main_v8
  let main_v10 : IVec S16384 1 := andi main_v7 main_v9
  let main_v11 : FVec F S16384 .f32 := Host.absf main_arg2
  let main_cst : FVec F S_ .f32 := constant S_ .f32 0x7F800000#32
  let main_v12 : FVec F S16384 .f32 := broadcastInDim S16384 ![] bcast_S_S16384 main_cst
  let main_v13 : IVec S16384 1 := cmpf .olt main_v11 main_v12
  let main_v14 : IVec S16384 1 := andi main_v10 main_v13
  let main_v15 : FVec F S3x128 .f32 := Host.absf main_arg3
  let main_cst_3 : FVec F S_ .f32 := constant S_ .f32 0x7F800000#32
  let main_v16 : FVec F S3x128 .f32 := broadcastInDim S3x128 ![] bcast_S_S3x128 main_cst_3
  let main_v17 : IVec S3x128 1 := cmpf .olt main_v15 main_v16
  fn_part1 (F := F) main_arg4 main_arg5 main_v14 main_v17
-- ==== Kernel.lean ====
abbrev S16384 : Shape := ⟨1, ![16384]⟩
abbrev S3x128 : Shape := ⟨2, ![3, 128]⟩
abbrev S64x1 : Shape := ⟨2, ![64, 1]⟩
abbrev S128 : Shape := ⟨1, ![128]⟩
abbrev S1x128 : Shape := ⟨2, ![1, 128]⟩
abbrev S128x128 : Shape := ⟨2, ![128, 128]⟩
abbrev S16384x128 : Shape := ⟨2, ![16384, 128]⟩
abbrev S32x128 : Shape := ⟨2, ![32, 128]⟩
abbrev S4096x128 : Shape := ⟨2, ![4096, 128]⟩
abbrev S2x128 : Shape := ⟨2, ![2, 128]⟩
abbrev S16x128 : Shape := ⟨2, ![16, 128]⟩
abbrev S1x64 : Shape := ⟨2, ![1, 64]⟩
abbrev S4x128 : Shape := ⟨2, ![4, 128]⟩
abbrev S8x128 : Shape := ⟨2, ![8, 128]⟩

abbrev nBuf : Space → Nat
  | .hbm => 12
  | .vmem => 12
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S3x128, .f32⟩
  | .hbm, ⟨4, _⟩ => ⟨S3x128, .f32⟩
  | .hbm, ⟨5, _⟩ => ⟨S64x1, .f32⟩
  | .hbm, ⟨6, _⟩ => ⟨S128, .f32⟩
  | .hbm, ⟨7, _⟩ => ⟨S1x128, .f32⟩
  | .hbm, ⟨8, _⟩ => ⟨S128x128, .i32⟩
  | .hbm, ⟨9, _⟩ => ⟨S128x128, .i32⟩
  | .hbm, ⟨10, _⟩ => ⟨S128x128, .f32⟩
  | .hbm, ⟨11, _⟩ => ⟨S16384x128, .f32⟩
  | .local _ .vmem, ⟨0, _⟩ => ⟨S32x128, .i32⟩
  | .local _ .vmem, ⟨1, _⟩ => ⟨S32x128, .i32⟩
  | .local _ .vmem, ⟨2, _⟩ => ⟨S32x128, .i32⟩
  | .local _ .vmem, ⟨3, _⟩ => ⟨S32x128, .i32⟩
  | .local _ .vmem, ⟨4, _⟩ => ⟨S32x128, .f32⟩
  | .local _ .vmem, ⟨5, _⟩ => ⟨S32x128, .f32⟩
  | .local _ .vmem, ⟨6, _⟩ => ⟨S3x128, .f32⟩
  | .local _ .vmem, ⟨7, _⟩ => ⟨S3x128, .f32⟩
  | .local _ .vmem, ⟨8, _⟩ => ⟨S64x1, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384 : Shape := ⟨1, ![16384]⟩
abbrev S3x128 : Shape := ⟨2, ![3, 128]⟩
abbrev S64x1 : Shape := ⟨2, ![64, 1]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S1x64 : Shape := ⟨2, ![1, 64]⟩
abbrev S16384x64 : Shape := ⟨2, ![16384, 64]⟩

abbrev nBuf : Space → Nat
  | .hbm => 99
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S3x128, .f32⟩
  | .hbm, ⟨4, _⟩ => ⟨S3x128, .f32⟩
  | .hbm, ⟨5, _⟩ => ⟨S64x1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x128, .f32⟩
  | .hbm, ⟨25, _⟩ => ⟨S16384x128, .i1⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x128, .f32⟩
  | .hbm, ⟨48, _⟩ => ⟨S16384x128, .i1⟩
  | .hbm, ⟨49, _⟩ => ⟨S_, .f32⟩
  | .hbm, ⟨50, _⟩ => ⟨S16384x128, .f32⟩
  | .hbm, ⟨51, _⟩ => ⟨S16384x128, .f32⟩
  | .hbm, ⟨52, _⟩ => ⟨S16384, .i1⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S16384x1, .f32⟩
  | .hbm, ⟨57, _⟩ => ⟨S1x64, .f32⟩
  | .hbm, ⟨58, _⟩ => ⟨S16384x64, .f32⟩
  | .hbm, ⟨59, _⟩ => ⟨S16384x64, .f32⟩
  | .hbm, ⟨60, _⟩ => ⟨S16384x64, .f32⟩
  | .hbm, ⟨61, _⟩ => ⟨S16384x64, .f32⟩
  | .hbm, ⟨62, _⟩ => ⟨S_, .f32⟩
  | .hbm, ⟨63, _⟩ => ⟨S16384x64, .f32⟩
  | .hbm, ⟨64, _⟩ => ⟨S16384x64, .f32⟩
  | .hbm, ⟨65, _⟩ => ⟨S_, .f32⟩
  | .hbm, ⟨66, _⟩ => ⟨S16384x64, .f32⟩
  | .hbm, ⟨67, _⟩ => ⟨S16384x64, .f32⟩
  | .hbm, ⟨68, _⟩ => ⟨S16384x64, .f32⟩
  | .hbm, ⟨69, _⟩ => ⟨S_, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S_, .f32⟩
  | .hbm, ⟨74, _⟩ => ⟨S16384x64, .f32⟩
  | .hbm, ⟨75, _⟩ => ⟨S16384x64, .f32⟩
  | .hbm, ⟨76, _⟩ => ⟨S_, .f32⟩
  | .hbm, ⟨77, _⟩ => ⟨S16384x64, .f32⟩
  | .hbm, ⟨78, _⟩ => ⟨S16384x64, .f32⟩
  | .hbm, ⟨79, _⟩ => ⟨S16384x64, .f32⟩
  | .hbm, ⟨80, _⟩ => ⟨S16384x64, .f32⟩
  | .hbm, ⟨81, _⟩ => ⟨S16384x64, .f32⟩
  | .hbm, ⟨82, _⟩ => ⟨S_, .f32⟩
  | .hbm, ⟨83, _⟩ => ⟨S16384x64, .f32⟩
  | .hbm, ⟨84, _⟩ => ⟨S16384x64, .f32⟩
  | .hbm, ⟨85, _⟩ => ⟨S_, .f32⟩
  | .hbm, ⟨86, _⟩ => ⟨S16384x64, .f32⟩
  | .hbm, ⟨87, _⟩ => ⟨S16384x64, .f32⟩
  | .hbm, ⟨88, _⟩ => ⟨S16384x64, .f32⟩
  | .hbm, ⟨89, _⟩ => ⟨S_, .f32⟩
  | .hbm, ⟨90, _⟩ => ⟨S16384x64, .f32⟩
  | .hbm, ⟨91, _⟩ => ⟨S16384x64, .f32⟩
  | .hbm, ⟨92, _⟩ => ⟨S16384x64, .f32⟩
  | .hbm, ⟨93, _⟩ => ⟨S_, .f32⟩
  | .hbm, ⟨94, _⟩ => ⟨S16384x64, .f32⟩
  | .hbm, ⟨95, _⟩ => ⟨S16384x64, .f32⟩
  | .hbm, ⟨96, _⟩ => ⟨S16384x128, .f32⟩
  | .hbm, ⟨97, _⟩ => ⟨S16384x128, .f32⟩
  | .hbm, ⟨98, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_v2 : Ref sig .tc := ⟨.hbm, 52, rfl⟩
abbrev main_cst : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_v12 : Ref sig .tc := ⟨.hbm, 64, rfl⟩
abbrev main_cst_1 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_cst_2 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_3 : Ref sig .tc := ⟨.hbm, 73, rfl⟩
abbrev main_v19 : Ref sig .tc := ⟨.hbm, 74, rfl⟩
abbrev main_v20 : Ref sig .tc := ⟨.hbm, 75, rfl⟩
abbrev main_cst_4 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_cst_5 : Ref sig .tc := ⟨.hbm, 82, rfl⟩
abbrev main_v26 : Ref sig .tc := ⟨.hbm, 83, rfl⟩
abbrev main_v27 : Ref sig .tc := ⟨.hbm, 84, rfl⟩
abbrev main_cst_6 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_cst_7 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_8 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩

abbrev nD : Nat := 1
abbrev τ : Topo := Topo.v7x

variable {F : FTy → Type} [FloatOps F]
-- ==== Proof.Group.lean ====
/-
  One block of the kernel as 32 equal steps: step `j` computes 128 rows of the result from row `j` of the block's labels
  and ages (`group`), and the block is what the 32 stores leave (`out_eq`).
-/
module

public import proofs.«01_k».proof.Proof.Gen.KernelIdeal.Frame
public import Idealize.ShloMosaic.Lib.Pointwise

@[expose] public section

set_option maxRecDepth 16384

noncomputable section

namespace Cert.KernelIdeal.Group

open Cert.KernelIdeal Cert.KernelIdeal.Gen Idealize.ShloMosaic
open Facts

variable {F : FTy → Type} [FloatOps F]

/-- Row `j` of a (32, 128) array can be cut out as a (1, 128) array. -/
theorem slices (j : Fin 32) : S32x128.Slices ![(j : Nat), 0] S1x128 := by
  revert j; decide

/-- Row `j` of a (32, 128) array lies inside it. -/
theorem inb_row (j : Fin 32) : ∀ a : Fin S32x128.rank, (![(j : Nat), 0] : Fin 2 → Nat) a + S1x128.size a ≤ S32x128.size a := by
  revert j; decide

/-- Rows `128 j` to `128 j + 127` of a (4096, 128) array lie inside it. -/
theorem inb_rows (j : Fin 32) : ∀ a : Fin S4096x128.rank, (![128 * (j : Nat), 0] : Fin 2 → Nat) a + S128x128.size a ≤ S4096x128.size a := by
  revert j; decide

/-- The two-hot (8, 128) array of one row of labels: in column `p`, ones at the first label and at three plus the second. -/
def twoHot (g h : IVec S1x128 32) : FVec F S8x128 .bf16 :=
  truncf .bf16 (sitofp .f32 (extui 32 (ori
    (cmpi .eq (iota .tc S8x128 32 [0] iota_S8x128_d0_w32) (broadcastTo S8x128 (shapeCast S1x128 g shapeCasts_S1x128_S1x128) broadcasts_S1x128_S8x128))
    (cmpi .eq (iota .tc S8x128 32 [0] iota_S8x128_d0_w32)
      (broadcastTo S8x128 (addi (shapeCast S1x128 h shapeCasts_S1x128_S1x128) (broadcast S1x128 3#32)) broadcasts_S1x128_S8x128)))
    natLt_1_32)) bitsLt_bf16_f32

/-- The 128 rows of label embeddings of one row of labels: the two-hot array, stacked twice, times the stacked tables. -/
def labelPart (t16 : FVec F S16x128 .bf16) (g h : IVec S1x128 32) : FVec F S128x128 .f32 :=
  matmul dot_S16x128_S16x128_S128x128_0_0_1_1_n_n none
    (concatenate S16x128 0 [⟨S8x128, twoHot g h⟩, ⟨S8x128, twoHot g h⟩] concatenates_S8x128_S8x128_S16x128_d0)
    t16 (constant S128x128 .f32 0x00000000#32)

/-- The 128 rows of phases, in turns, of row `j` of the ages: four age rows times four weight rows. -/
def phase (j : Fin 32) (hi lo : FVec F S32x128 .bf16) (ones : FVec F S1x128 .bf16) (w4 : FVec F S4x128 .bf16) : FVec F S128x128 .f32 :=
  matmul dot_S4x128_S4x128_S128x128_0_0_1_1_n_n none
    (concatenate S4x128 0 [⟨S1x128, extractStridedSlice S1x128 ![(j : Nat), 0] hi (slices j)⟩,
      ⟨S1x128, extractStridedSlice S1x128 ![(j : Nat), 0] lo (slices j)⟩,
      ⟨S1x128, extractStridedSlice S1x128 ![(j : Nat), 0] hi (slices j)⟩, ⟨S1x128, ones⟩]
      concatenates_S1x128_S1x128_S1x128_S1x128_S4x128_d0)
    w4 (constant S128x128 .f32 0x00000000#32)

/-- The squared distance of a phase to the nearest whole turn. -/
def sqDist (u : FVec F S128x128 .f32) : FVec F S128x128 .f32 :=
  mulf (subf u (roundeven u)) (subf u (roundeven u))

/-- The cubic without its constant term, plus an array that holds the constant term already. -/
def cubic (x tab : FVec F S128x128 .f32) : FVec F S128x128 .f32 :=
  addf (mulf (addf (mulf (addf (mulf (broadcast S128x128 (Scalar.ofBits .f32 0xC26E236B#32)) x)
    (broadcast S128x128 (Scalar.ofBits .f32 0x4273F419#32))) x)
    (broadcast S128x128 (Scalar.ofBits .f32 0xC19C3449#32))) x) tab

/-- What one row group of the body stores: 128 rows of the result, from row `j` of the block's labels and ages. -/
def group (j : Fin 32) (x0 : Vec F S32x128 .i32) (x1 : Vec F S32x128 .i32) (x2 : Vec F S32x128 .f32) (x3 : Vec F S3x128 .f32)
    (x4 : Vec F S3x128 .f32) (x5 : Vec F S64x1 .f32) (x6 : Vec F S1x128 .f32) : FVec F S128x128 .f32 :=
  cubic (sqDist (phase j (k0_pay2 (View.ld x2 r0_0)) (k0_pay3 (View.ld x2 r0_0)) (k0_pay4 (F := F)) (k0_pay6 (View.ld x5 r0_2) (View.ld x6 r0_3))))
    (labelPart (k0_pay5 (View.ld x3 r0_1) (View.ld x4 r0_1))
      (View.ld x0 (Rect.unit (s := S32x128) ![(j : Nat), 0] S1x128.size (inb_row j)))
      (View.ld x1 (Rect.unit (s := S32x128) ![(j : Nat), 0] S1x128.size (inb_row j))))

/-- One store of the body: row group `j` into rows `128 j` to `128 j + 127` of the block. -/
def piece (x0 : Vec F S32x128 .i32) (x1 : Vec F S32x128 .i32) (x2 : Vec F S32x128 .f32) (x3 : Vec F S3x128 .f32)
    (x4 : Vec F S3x128 .f32) (x5 : Vec F S64x1 .f32) (x6 : Vec F S1x128 .f32) (j : Fin 32) : View.Piece (Elt F) S4096x128 .f32 :=
  ⟨Rect.unit (s := S4096x128) ![128 * (j : Nat), 0] S128x128.size (inb_rows j), group j x0 x1 x2 x3 x4 x5 x6⟩

/-- The body's block is what its 32 stores leave, one store for each row group, the last first. -/
theorem out_eq (x0 : Vec F S32x128 .i32) (x1 : Vec F S32x128 .i32) (x2 : Vec F S32x128 .f32) (x3 : Vec F S3x128 .f32)
    (x4 : Vec F S3x128 .f32) (x5 : Vec F S64x1 .f32) (x6 : Vec F S1x128 .f32) :
    out0_7 x0 x1 x2 x3 x4 x5 x6 = View.canon (List.ofFn fun k : Fin 32 => piece x0 x1 x2 x3 x4 x5 x6 (Fin.rev k)) := by
  rfl

end Cert.KernelIdeal.Group

end
-- ==== Proof.Turns.lean ====
/-
  The cubic that stands for the cosine of a phase in turns, as a function of the reals; the real numbers that the
  programs' literals are; and the table row that a label names.
-/
module

public import Idealize.ShloMosaic.PureOps.Ideal
public import Idealize.ShloMosaic.Lib.IdealHost

@[expose] public section

noncomputable section

namespace Cert.Turns

open Idealize.ShloMosaic

/-! ## The cubic as a real function, and the real numbers that the programs' literals are -/

/-- The signed distance of a real to the nearest integer (a tie goes to the even one). -/
def turnDist (t : ℝ) : ℝ := t - (Ideal.roundHalfEven t : ℝ)

/-- The cubic in `x`. -/
def poly (x : ℝ) : ℝ :=
  4183283 / 4194304 + x * (-(10237001 / 524288) + x * (15987737 / 262144 + x * -(15606635 / 262144)))

/-- The cosine of a phase in turns, as both programs compute it: the cubic in the squared distance to the nearest turn. -/
def cosTurns (t : ℝ) : ℝ := poly (turnDist t * turnDist t)

/-- The coefficient of the cube. -/
theorem lit_c3 : Ideal.ofBits .f32 0xC26E236B#32 = ((-(15606635 / 262144) : ℝ) : EReal) := by
  simp [Ideal.ofBits, Ideal.ieee, -EReal.coe_mul, -EReal.coe_neg]; norm_num

/-- The coefficient of the square. -/
theorem lit_c2 : Ideal.ofBits .f32 0x4273F419#32 = ((15987737 / 262144 : ℝ) : EReal) := by
  simp [Ideal.ofBits, Ideal.ieee, -EReal.coe_mul, -EReal.coe_neg]; norm_num

/-- The linear coefficient. -/
theorem lit_c1 : Ideal.ofBits .f32 0xC19C3449#32 = ((-(10237001 / 524288) : ℝ) : EReal) := by
  simp [Ideal.ofBits, Ideal.ieee, -EReal.coe_mul, -EReal.coe_neg]; norm_num

/-- The constant term. -/
theorem lit_c0 : Ideal.ofBits .f32 0x3F7F53CC#32 = ((4183283 / 4194304 : ℝ) : EReal) := by
  simp [Ideal.ofBits, Ideal.ieee, -EReal.coe_mul, -EReal.coe_neg]; norm_num

/-- Half of the constant term. -/
theorem lit_half_c0 : Ideal.ofBits .f32 0x3EFF53CC#32 = ((4183283 / 8388608 : ℝ) : EReal) := by
  simp [Ideal.ofBits, Ideal.ieee, -EReal.coe_mul, -EReal.coe_neg]; norm_num

/-- A quarter of a turn. -/
theorem lit_quarter : Ideal.ofBits .f32 0x3E800000#32 = ((1 / 4 : ℝ) : EReal) := by
  simp [Ideal.ofBits, Ideal.ieee, -EReal.coe_mul, -EReal.coe_neg]; norm_num

/-- The word that stands for 2π. -/
theorem lit_twoPi : Ideal.ofBits .f32 0x40C90FDB#32 = ((13176795 / 2097152 : ℝ) : EReal) := by
  simp [Ideal.ofBits, Ideal.ieee, -EReal.coe_mul, -EReal.coe_neg]; norm_num

/-- The word that stands for one ten-millionth. -/
theorem lit_slack : Ideal.ofBits .f32 0x33D6BF95#32 = ((14073749 / 140737488355328 : ℝ) : EReal) := by
  simp [Ideal.ofBits, Ideal.ieee, -EReal.coe_mul, -EReal.coe_neg]; norm_num

/-- The word that stands for 0.003. -/
theorem lit_bound : Ideal.ofBits .f32 0x3B449BA6#32 = ((6442451 / 2147483648 : ℝ) : EReal) := by
  simp [Ideal.ofBits, Ideal.ieee, -EReal.coe_mul, -EReal.coe_neg]; norm_num

/-- The word of positive infinity. -/
theorem lit_inf : Ideal.ofBits .f32 0x7F800000#32 = ⊤ := by
  simp [Ideal.ofBits, Ideal.ieee]

/-- A label as a number: the table row that it names. -/
def row (b : BitVec 32) : Fin 3 := if b = 1#32 then 1 else if b = 2#32 then 2 else 0

/-- A label in range is the word of its row. -/
theorem eq_row {b : BitVec 32} (h : b = 0#32 ∨ b = 1#32 ∨ b = 2#32) : b = BitVec.ofNat 32 (row b : Nat) := by
  rcases h with rfl | rfl | rfl <;> rfl

end Cert.Turns

end
-- ==== Proof.Embedding.lean ====
/-
  What both programs compute, stated once: where every label is 0, 1 or 2 and every float is finite, the result at row
  `n` and column `q` is the sum of the two table rows that row `n`'s labels name, plus the cubic's cosine of the age
  times the column's weight minus a quarter turn in the sine columns.
-/
module

public import proofs.«01_k».proof.Proof.Group
public import proofs.«01_k».proof.Proof.Turns

@[expose] public section

noncomputable section

namespace Cert.Embedding

open Cert.KernelIdeal Idealize.ShloMosaic Cert.Turns

/-- The weight that column `q` uses: the 64 weights serve the cosine columns and again the sine columns. -/
def col (q : Fin 128) : Fin 64 := ⟨(q : Nat) % 64, Nat.mod_lt _ (by decide)⟩

/-- The shift of column `q` in turns: none for a cosine, a quarter for a sine. -/
def shift (q : Fin 128) : ℝ := if (q : Nat) < 64 then 0 else 1 / 4

/-- The arguments are labelled and finite: each label is 0, 1 or 2, and each float is a real number. -/
structure Plain (x0 x1 : Vec Ideal S16384 .i32) (x2 : Vec Ideal S16384 .f32) (x3 x4 : Vec Ideal S3x128 .f32) (x5 : Vec Ideal S64x1 .f32) : Prop where
  gender : ∀ i, x0 i = 0#32 ∨ x0 i = 1#32 ∨ x0 i = 2#32
  health : ∀ i, x1 i = 0#32 ∨ x1 i = 1#32 ∨ x1 i = 2#32
  age : ∀ i, x2 i = ((EReal.toReal (x2 i) : ℝ) : EReal)
  genders : ∀ i, x3 i = ((EReal.toReal (x3 i) : ℝ) : EReal)
  healths : ∀ i, x4 i = ((EReal.toReal (x4 i) : ℝ) : EReal)
  weight : ∀ i, x5 i = ((EReal.toReal (x5 i) : ℝ) : EReal)

/-- The age of row `n` times the weight of column `q`, in turns. -/
def turns (x2 : Vec Ideal S16384 .f32) (x5 : Vec Ideal S64x1 .f32) (n : Fin 16384) (q : Fin 128) : ℝ :=
  EReal.toReal (x2 (ix1 n)) * EReal.toReal (x5 (ix2 (col q) (0 : Fin 1)))

/-- The sum of the two table entries that row `n`'s labels name in column `q`. -/
def entries (x0 x1 : Vec Ideal S16384 .i32) (x3 x4 : Vec Ideal S3x128 .f32) (n : Fin 16384) (q : Fin 128) : ℝ :=
  EReal.toReal (x3 (ix2 (row (x0 (ix1 n))) q)) + EReal.toReal (x4 (ix2 (row (x1 (ix1 n))) q))

/-- The whole result. -/
def value (x0 x1 : Vec Ideal S16384 .i32) (x2 : Vec Ideal S16384 .f32) (x3 x4 : Vec Ideal S3x128 .f32) (x5 : Vec Ideal S64x1 .f32) : Vec Ideal S16384x128 .f32 :=
  fun i => ((entries x0 x1 x3 x4 (i 0) (i 1) + cosTurns (turns x2 x5 (i 0) (i 1) - shift (i 1)) : ℝ) : EReal)

/-- Column `q` of a cosine uses weight `q`, -/
theorem col_cos {q : Fin 128} {k : Fin 64} (h : (k : Nat) = q) : k = col q := by
  refine Fin.ext (h.trans (Nat.mod_eq_of_lt ?_).symm)
  omega

/-- and column `q` of a sine uses weight `q - 64`. -/
theorem col_sin {q : Fin 128} {k : Fin 64} (hq : ¬ (q : Nat) < 64) (h : (k : Nat) = q - 64) : k = col q := by
  refine Fin.ext ?_
  show (k : Nat) = (q : Nat) % 64
  omega

/-- A finite age is not replaced, so the product of an age and a weight, as a sum of one term, is their real product. -/
theorem product (a w : EReal) (ha : a = ((EReal.toReal a : ℝ) : EReal)) (hw : w = ((EReal.toReal w : ℝ) : EReal)) :
    (∑ _k : Fin 1, (if a ≠ a then 0 else a) * w) = ((EReal.toReal a * EReal.toReal w : ℝ) : EReal) := by
  rw [Fin.sum_univ_one, if_neg (not_not.mpr rfl), EReal.coe_mul, ← ha, ← hw]

end Cert.Embedding

end
-- ==== Proof.BlockValue.lean ====
/-
  What one block of the kernel computes on labels in range and finite floats: the two-hot product is the sum of two table
  rows, the split product is the phase, and the cubic in its squared distance is added (`block_apply`).
-/
module

public import proofs.«01_k».proof.Proof.Group
public import proofs.«01_k».proof.Proof.Embedding
public import Idealize.ShloMosaic.Lib.Pipeline.ValueKit.Tiles

@[expose] public section

set_option maxRecDepth 16384

noncomputable section

namespace Cert.KernelIdeal.Group

open Cert.KernelIdeal Cert.KernelIdeal.Gen Idealize.ShloMosaic Cert.Turns Cert.Embedding
open Facts

/-! ## The label part: a two-hot product is a sum of two table rows -/

/-- The two-hot array holds one at the first label's row and at three plus the second's, zero elsewhere. -/
theorem twoHot_apply (g h : IVec S1x128 32) (k : Fin 8) (p : Fin 128) (a b : Fin 3)
    (hg : g (ix2 0 p) = BitVec.ofNat 32 (a : Nat)) (hh : h (ix2 0 p) = BitVec.ofNat 32 (b : Nat)) :
    twoHot (F := Ideal) g h (ix2 k p) = if (k : Nat) = a ∨ (k : Nat) = 3 + b then 1 else 0 := by
  have word : ∀ (k : Fin 8) (a b : Fin 3),
      BitVec.setWidth 32 (IntOp.ori (IntOp.cmpi CmpIPredicate.eq (BitVec.ofNat 32 (k : Nat)) (BitVec.ofNat 32 (a : Nat)))
        (IntOp.cmpi CmpIPredicate.eq (BitVec.ofNat 32 (k : Nat)) (IntOp.addi (BitVec.ofNat 32 (b : Nat)) 3#32)))
      = if (k : Nat) = a ∨ (k : Nat) = 3 + b then 1#32 else 0#32 := by decide
  pointwise [twoHot]
  rw [hg, hh, word]
  split
  · show (((1#32 : BitVec 32).toInt : ℝ) : EReal) = 1
    norm_num
  · show (((0#32 : BitVec 32).toInt : ℝ) : EReal) = 0
    norm_num

/-- A sum over eight terms weighted by the two-hot column is the sum of the two terms that it names. -/
theorem sum_twoHot (a b : Fin 3) (f : Fin 8 → EReal) :
    ∑ k : Fin 8, (if (k : Nat) = a ∨ (k : Nat) = 3 + b then 1 else 0) * f k
      = f ⟨a, by omega⟩ + f ⟨3 + b, by omega⟩ := by
  rw [Fin.sum_univ_eight]
  fin_cases a <;> fin_cases b <;> simp

section Tables

variable (x3 x4 : Vec Ideal S3x128 .f32) (t3 t4 : S3x128.Idx → ℝ)
variable (h3 : ∀ i, x3 i = ((t3 i : ℝ) : EReal)) (h4 : ∀ i, x4 i = ((t4 i : ℝ) : EReal))

include h3 in
/-- Rows 0 to 2 of the stacked tables: the first table with half of the constant term. -/
theorem tables_first (a : Fin 3) (q : Fin 128) :
    k0_pay5 (View.ld x3 r0_1) (View.ld x4 r0_1) (ix2 (⟨a, by omega⟩ : Fin 16) q) = ((t3 (ix2 a q) + 4183283 / 8388608 : ℝ) : EReal) := by
  pointwise [k0_pay5]
  fin_cases a <;> simp [h3, lit_half_c0] <;> norm_cast

include h4 in
/-- Rows 3 to 5 of the stacked tables: the second table with half of the constant term. -/
theorem tables_second (b : Fin 3) (q : Fin 128) :
    k0_pay5 (View.ld x3 r0_1) (View.ld x4 r0_1) (ix2 (⟨3 + b, by omega⟩ : Fin 16) q) = ((t4 (ix2 b q) + 4183283 / 8388608 : ℝ) : EReal) := by
  pointwise [k0_pay5]
  fin_cases b <;> simp [h4, lit_half_c0] <;> norm_cast

include h3 h4 in
/-- Rows 8 to 15 of the stacked tables, the remainders left by the first eight, are zero. -/
theorem tables_rest (k : Fin 8) (q : Fin 128) :
    k0_pay5 (View.ld x3 r0_1) (View.ld x4 r0_1) (ix2 (⟨8 + k, by omega⟩ : Fin 16) q) = 0 := by
  pointwise [k0_pay5]
  simp only [h3, h4, lit_half_c0, ← EReal.coe_add, ← EReal.coe_sub, sub_self, EReal.coe_zero]
  fin_cases k <;> simp

include h3 h4 in
/-- The label part at row `p` and column `q`: the two table rows, with the cubic's constant term. -/
theorem labelPart_apply (g h : IVec S1x128 32) (p q : Fin 128) (a b : Fin 3)
    (hg : g (ix2 0 p) = BitVec.ofNat 32 (a : Nat)) (hh : h (ix2 0 p) = BitVec.ofNat 32 (b : Nat)) :
    labelPart (k0_pay5 (View.ld x3 r0_1) (View.ld x4 r0_1)) g h (ix2 p q)
      = ((t3 (ix2 a q) + t4 (ix2 b q) + 4183283 / 4194304 : ℝ) : EReal) := by
  pointwise [labelPart]
  simp only [twoHot_apply g h _ p a b hg hh]
  rw [sum_twoHot, sum_twoHot]
  rw [tables_rest x3 x4 t3 t4 h3 h4 ⟨a, by omega⟩, tables_rest x3 x4 t3 t4 h3 h4 ⟨3 + b, by omega⟩,
    tables_first x3 x4 t3 h3, tables_second x3 x4 t4 h4]
  rw [add_zero, add_zero, ← EReal.coe_add]
  congr 1
  ring

end Tables

/-! ## The phase -/

section Phase

variable (x2 : Vec Ideal S32x128 .f32) (x5 : Vec Ideal S64x1 .f32) (x6 : Vec Ideal S1x128 .f32)
variable (age : S32x128.Idx → ℝ) (w : S64x1.Idx → ℝ) (s : S1x128.Idx → ℝ)
variable (h2 : ∀ i, x2 i = ((age i : ℝ) : EReal)) (h5 : ∀ i, x5 i = ((w i : ℝ) : EReal)) (h6 : ∀ i, x6 i = ((s i : ℝ) : EReal))

/-- An age is its own leading part, -/
theorem ages_lead (j : Fin 32) (p : Fin 128) : k0_pay2 (View.ld x2 r0_0) (ix2 j p) = x2 (ix2 j p) := by
  pointwise [k0_pay2, k0_pay1]
  rw [if_neg (by simp)]

include h2 in
/-- and its remainder is zero. -/
theorem ages_rest (j : Fin 32) (p : Fin 128) : k0_pay3 (View.ld x2 r0_0) (ix2 j p) = 0 := by
  pointwise [k0_pay3, k0_pay2, k0_pay1]
  rw [if_neg (by simp), h2, ← EReal.coe_sub, sub_self, EReal.coe_zero]

include h5 h6 in
/-- The four weight rows: the weights twice, their remainder, which is zero, and minus the shift. -/
theorem weights_apply (k : Fin 4) (q : Fin 128) :
    k0_pay6 (View.ld x5 r0_2) (View.ld x6 r0_3) (ix2 k q)
      = ((if (k : Nat) < 2 then w (ix2 (col q) 0) else if (k : Nat) = 2 then 0 else -s (ix2 0 q) : ℝ) : EReal) := by
  have hw : (if h : (q : Nat) < 64 then x5 (ix2 ⟨q, h⟩ 0) else x5 (ix2 ⟨q - 64, by omega⟩ 0)) = ((w (ix2 (col q) 0) : ℝ) : EReal) := by
    split
    · rw [h5]; congr 3; exact Fin.ext (Nat.mod_eq_of_lt ‹_›).symm
    · rw [h5]; congr 3; exact Fin.ext (by show (q : Nat) - 64 = q % 64; omega)
  pointwise [k0_pay6]
  fin_vals k with hk
  all_goals simp [hk, h6, hw]

include h2 h5 h6 in
/-- The phase at row `p` and column `q`: the age times the column's weight, minus the column's shift. -/
theorem phase_apply (j : Fin 32) (p q : Fin 128) :
    phase j (k0_pay2 (View.ld x2 r0_0)) (k0_pay3 (View.ld x2 r0_0)) (k0_pay4 (F := Ideal)) (k0_pay6 (View.ld x5 r0_2) (View.ld x6 r0_3)) (ix2 p q)
      = ((age (ix2 j p) * w (ix2 (col q) 0) - s (ix2 0 q) : ℝ) : EReal) := by
  have one : k0_pay4 (F := Ideal) (ix2 0 p) = 1 := by pointwise [k0_pay4]
  pointwise [phase]
  simp only [Fin.sum_univ_four, weights_apply x5 x6 w s h5 h6]
  simp [ages_lead, ages_rest x2 age h2, h2, one]
  norm_cast

end Phase

/-- The squared distance of a finite phase. -/
theorem sqDist_apply (u : FVec Ideal S128x128 .f32) (i : S128x128.Idx) (t : ℝ) (h : u i = ((t : ℝ) : EReal)) :
    sqDist u i = ((turnDist t * turnDist t : ℝ) : EReal) := by
  pointwise [sqDist]
  rw [h, Ideal.liftRound_coe, ← EReal.coe_sub, ← EReal.coe_mul]
  rfl

/-- The cubic at a finite argument. -/
theorem cubic_apply (x tab : FVec Ideal S128x128 .f32) (i : S128x128.Idx) (y b : ℝ) (hx : x i = ((y : ℝ) : EReal))
    (hb : tab i = ((b + 4183283 / 4194304 : ℝ) : EReal)) : cubic x tab i = ((b + poly y : ℝ) : EReal) := by
  pointwise [cubic]
  rw [hx, hb, lit_c1, lit_c2, lit_c3]
  norm_cast
  unfold poly
  push_cast
  ring

section Block

variable (x0 x1 : Vec Ideal S32x128 .i32) (x2 : Vec Ideal S32x128 .f32) (x3 x4 : Vec Ideal S3x128 .f32)
variable (x5 : Vec Ideal S64x1 .f32) (x6 : Vec Ideal S1x128 .f32)

/-- A block's result at row `128 j + p` and column `q`, where the block's labels are in range and its floats finite:
    the two table rows that the labels name, plus the cubic's cosine of the age times the weight minus the shift. -/
theorem block_apply (age : S32x128.Idx → ℝ) (t3 t4 : S3x128.Idx → ℝ) (w : S64x1.Idx → ℝ) (s : S1x128.Idx → ℝ)
    (h2 : ∀ i, x2 i = ((age i : ℝ) : EReal)) (h3 : ∀ i, x3 i = ((t3 i : ℝ) : EReal)) (h4 : ∀ i, x4 i = ((t4 i : ℝ) : EReal))
    (h5 : ∀ i, x5 i = ((w i : ℝ) : EReal)) (h6 : ∀ i, x6 i = ((s i : ℝ) : EReal))
    (j : Fin 32) (p q : Fin 128) (a b : Fin 3)
    (ha : x0 (ix2 j p) = BitVec.ofNat 32 (a : Nat)) (hb : x1 (ix2 j p) = BitVec.ofNat 32 (b : Nat))
    (r : Fin 4096) (hr : (r : Nat) = 128 * j + p) :
    out0_7 x0 x1 x2 x3 x4 x5 x6 (ix2 r q)
      = ((t3 (ix2 a q) + t4 (ix2 b q) + cosTurns (age (ix2 j p) * w (ix2 (col q) 0) - s (ix2 0 q)) : ℝ) : EReal) := by
  rw [out_eq]
  refine View.canon_ofFn_unit_eq_of_forall (N := 32) (S := S4096x128) (Val := Elt Ideal) (e := .f32) (fun k => ![128 * ((Fin.rev k : Fin 32) : Nat), 0]) S128x128.size
    (fun k => inb_rows (Fin.rev k)) (fun k => group (Fin.rev k) x0 x1 x2 x3 x4 x5 x6) (ix2 r q) _ ?_ ?_
  · refine ⟨Fin.rev j, fun c => ?_⟩
    rw [Fin.rev_rev]
    fin_cases c
    · show 128 * (j : Nat) ≤ r ∧ (r : Nat) < 128 * j + 128
      omega
    · show 0 ≤ (q : Nat) ∧ (q : Nat) < 0 + 128
      omega
  · intro k x hx
    have hx0 : (r : Nat) = 128 * ((Fin.rev k : Fin 32) : Nat) + (x 0 : Nat) := hx 0
    have hx1 : (q : Nat) = 0 + (x 1 : Nat) := hx 1
    have l0 : (x 0 : Nat) < 128 := (x 0).isLt
    have hj : Fin.rev k = j := Fin.ext (by omega)
    have hxe : x = ix2 p q := by
      rw [eq_ix2 x]
      congr 1
      · exact Fin.ext (by rw [hj] at hx0; omega)
      · exact Fin.ext (by omega)
    rw [hxe, hj]
    refine cubic_apply _ _ _ _ _ (sqDist_apply _ _ _ (phase_apply x2 x5 x6 age w s h2 h5 h6 j p q)) (labelPart_apply x3 x4 t3 t4 h3 h4 _ _ p q a b ?_ ?_)
    · rw [← ha]; pointwise
    · rw [← hb]; pointwise

end Block

end Cert.KernelIdeal.Group

end
-- ==== Proof.Array.lean ====
/-
  The kernel's result array after its run, in closed form: each of the four grid points writes 4096 rows, and these
  cover the array (`final`), so the run ends with the stated sum in every element (`run`).
-/
module

public import proofs.«01_k».proof.Proof.BlockValue
public import proofs.«01_k».proof.Proof.Embedding
public import proofs.«01_k».proof.Proof.Gen.KernelIdeal.Value
public import Idealize.ShloMosaic.Lib.StableHlo.ReadAt

@[expose] public section

set_option maxRecDepth 16384

noncomputable section

namespace Cert.KernelIdeal.Array

open Cert.KernelIdeal Cert.KernelIdeal.Gen Idealize.ShloMosaic Idealize.ShloMosaic.TcCoe Cert.Turns Idealize.SL.Sem
open Idealize.ShloMosaic.Pipeline (Dat)

variable (m : (ℓ : Loc nD τ sig) → Buf (Elt Ideal) ℓ) (ρ : Dev nD → PrngReg)

/-! ## The blocks of the windows, as elements of the arguments -/

/-- Grid point `t` takes block `t` of the gender labels, -/
theorem at0 : ∀ t : Fin grid0.N, win0_0.index t 0 = t ∧ win0_0.index t 1 = 0 := by decide +kernel
/-- of the health labels -/
theorem at1 : ∀ t : Fin grid0.N, win0_1.index t 0 = t ∧ win0_1.index t 1 = 0 := by decide +kernel
/-- and of the ages, -/
theorem at2 : ∀ t : Fin grid0.N, win0_2.index t 0 = t ∧ win0_2.index t 1 = 0 := by decide +kernel
/-- the whole gender table, -/
theorem at3 : ∀ t : Fin grid0.N, win0_3.index t 0 = 0 ∧ win0_3.index t 1 = 0 := by decide +kernel
/-- the whole health table, -/
theorem at4 : ∀ t : Fin grid0.N, win0_4.index t 0 = 0 ∧ win0_4.index t 1 = 0 := by decide +kernel
/-- all weights -/
theorem at5 : ∀ t : Fin grid0.N, win0_5.index t 0 = 0 ∧ win0_5.index t 1 = 0 := by decide +kernel
/-- and all shifts, -/
theorem at6 : ∀ t : Fin grid0.N, win0_6.index t 0 = 0 ∧ win0_6.index t 1 = 0 := by decide +kernel
/-- and writes block `t` of the result. -/
theorem at7 : ∀ t : Fin grid0.N, win0_7.index t 0 = t ∧ win0_7.index t 1 = 0 := by decide +kernel

/-- Two rank-two indices with equal coordinates are equal. -/
theorem ix2_ext {a b : Nat} (x y : Shape.Idx ⟨2, ![a, b]⟩) (h0 : (x 0 : Nat) = y 0) (h1 : (x 1 : Nat) = y 1) : x = y := by
  rw [eq_ix2 x, eq_ix2 y, Fin.ext h0, Fin.ext h1]

/-- The gender labels' block at grid point `t`: row `j`, lane `p` is label `4096 t + 128 j + p`. -/
theorem gender_block (c : Dev nD) (t : Fin cfg0.N) (j : Fin 32) (p : Fin 128) (n : Fin 16384) (hn : (n : Nat) = 4096 * (t : Nat) + 128 * j + p) :
    iblk m c 0 t (ix2 j p) = m ((c : Thread nD τ).loc main_arg0) (ix1 n) := by
  have ht : (t : Nat) < 4 := t.isLt
  obtain ⟨i0, i1⟩ := at0 t
  have e : iblk m c 0 t (ix2 j p) = V m c main_v1 (ix2 (⟨32 * (t : Nat) + j, by omega⟩ : Fin 128) p) := by
    unfold iblk
    rw [View.read_apply]
    refine congrArg (V m c main_v1) (ix2_ext _ _ ?_ ?_)
    · show win0_0.index t 0 * 32 + 1 * (j : Nat) = 32 * (t : Nat) + j
      rw [i0]; omega
    · show win0_0.index t 1 * 128 + 1 * (p : Nat) = p
      rw [i1]; omega
  rw [e]
  unfold V
  after_reads_at
  have hi : (⟨(32 * (t : Nat) + j) * 128 + p, by omega⟩ : Fin 16384) = n := Fin.ext (by simp only [hn]; omega)
  exact congrArg (fun k => m ((c : Thread nD τ).loc main_arg0) (ix1 k)) hi

/-- The health labels' block, likewise. -/
theorem health_block (c : Dev nD) (t : Fin cfg0.N) (j : Fin 32) (p : Fin 128) (n : Fin 16384) (hn : (n : Nat) = 4096 * (t : Nat) + 128 * j + p) :
    iblk m c 1 t (ix2 j p) = m ((c : Thread nD τ).loc main_arg1) (ix1 n) := by
  have ht : (t : Nat) < 4 := t.isLt
  obtain ⟨i0, i1⟩ := at1 t
  have e : iblk m c 1 t (ix2 j p) = V m c main_v2 (ix2 (⟨32 * (t : Nat) + j, by omega⟩ : Fin 128) p) := by
    unfold iblk
    rw [View.read_apply]
    refine congrArg (V m c main_v2) (ix2_ext _ _ ?_ ?_)
    · show win0_1.index t 0 * 32 + 1 * (j : Nat) = 32 * (t : Nat) + j
      rw [i0]; omega
    · show win0_1.index t 1 * 128 + 1 * (p : Nat) = p
      rw [i1]; omega
  rw [e]
  unfold V
  after_reads_at
  have hi : (⟨(32 * (t : Nat) + j) * 128 + p, by omega⟩ : Fin 16384) = n := Fin.ext (by simp only [hn]; omega)
  exact congrArg (fun k => m ((c : Thread nD τ).loc main_arg1) (ix1 k)) hi

/-- The ages' block, likewise. -/
theorem age_block (c : Dev nD) (t : Fin cfg0.N) (j : Fin 32) (p : Fin 128) (n : Fin 16384) (hn : (n : Nat) = 4096 * (t : Nat) + 128 * j + p) :
    iblk m c 2 t (ix2 j p) = m ((c : Thread nD τ).loc main_arg2) (ix1 n) := by
  have ht : (t : Nat) < 4 := t.isLt
  obtain ⟨i0, i1⟩ := at2 t
  have e : iblk m c 2 t (ix2 j p) = V m c main_v3 (ix2 (⟨32 * (t : Nat) + j, by omega⟩ : Fin 128) p) := by
    unfold iblk
    rw [View.read_apply]
    refine congrArg (V m c main_v3) (ix2_ext _ _ ?_ ?_)
    · show win0_2.index t 0 * 32 + 1 * (j : Nat) = 32 * (t : Nat) + j
      rw [i0]; omega
    · show win0_2.index t 1 * 128 + 1 * (p : Nat) = p
      rw [i1]; omega
  rw [e]
  unfold V
  after_reads_at
  have hi : (⟨(32 * (t : Nat) + j) * 128 + p, by omega⟩ : Fin 16384) = n := Fin.ext (by simp only [hn]; omega)
  exact congrArg (fun k => m ((c : Thread nD τ).loc main_arg2) (ix1 k)) hi

/-- The gender table's block is the whole table at every grid point. -/
theorem genders_block (c : Dev nD) (t : Fin cfg0.N) (i : S3x128.Idx) : iblk m c 3 t i = m ((c : Thread nD τ).loc main_arg3) i := by
  obtain ⟨i0, i1⟩ := at3 t
  rw [← V_main_arg3 m c]
  unfold iblk
  rw [View.read_apply]
  refine congrArg (V m c main_arg3) (ix2_ext _ _ ?_ ?_)
  · show win0_3.index t 0 * 3 + 1 * (i 0 : Nat) = i 0
    rw [i0]; omega
  · show win0_3.index t 1 * 128 + 1 * (i 1 : Nat) = i 1
    rw [i1]; omega

/-- The health table's block, likewise. -/
theorem healths_block (c : Dev nD) (t : Fin cfg0.N) (i : S3x128.Idx) : iblk m c 4 t i = m ((c : Thread nD τ).loc main_arg4) i := by
  obtain ⟨i0, i1⟩ := at4 t
  rw [← V_main_arg4 m c]
  unfold iblk
  rw [View.read_apply]
  refine congrArg (V m c main_arg4) (ix2_ext _ _ ?_ ?_)
  · show win0_4.index t 0 * 3 + 1 * (i 0 : Nat) = i 0
    rw [i0]; omega
  · show win0_4.index t 1 * 128 + 1 * (i 1 : Nat) = i 1
    rw [i1]; omega

/-- The weights' block, likewise. -/
theorem weight_block (c : Dev nD) (t : Fin cfg0.N) (i : S64x1.Idx) : iblk m c 5 t i = m ((c : Thread nD τ).loc main_arg5) i := by
  obtain ⟨i0, i1⟩ := at5 t
  rw [← V_main_arg5 m c]
  unfold iblk
  rw [View.read_apply]
  refine congrArg (V m c main_arg5) (ix2_ext _ _ ?_ ?_)
  · show win0_5.index t 0 * 64 + 1 * (i 0 : Nat) = i 0
    rw [i0]; omega
  · show win0_5.index t 1 * 1 + 1 * (i 1 : Nat) = i 1
    rw [i1]; omega

/-- The constant row's words: zero in the cosine columns, a quarter in the sine columns. -/
theorem word_lit (q : Fin 128) : lit0 (S128.rowMajor (ix1 q)) = if (q : Nat) < 64 then 0#32 else 0x3E800000#32 := by
  revert q; decide +kernel

/-- The shifts' block at every grid point. -/
theorem shift_block (c : Dev nD) (t : Fin cfg0.N) (i : S1x128.Idx) :
    iblk m c 6 t i = ((Embedding.shift (i 1) : ℝ) : EReal) := by
  obtain ⟨i0, i1⟩ := at6 t
  have e : iblk m c 6 t i = V m c main_v0 (ix2 (0 : Fin 1) (i 1)) := by
    unfold iblk
    rw [View.read_apply]
    refine congrArg (V m c main_v0) (ix2_ext _ _ ?_ ?_)
    · have : (i 0 : Nat) < 1 := (i 0).isLt
      show win0_6.index t 0 * 1 + 1 * (i 0 : Nat) = 0
      rw [i0]; omega
    · show win0_6.index t 1 * 128 + 1 * (i 1 : Nat) = i 1
      rw [i1]; omega
  rw [e]
  unfold V
  after_reads_at
  rw [word_lit (i 1)]
  unfold Embedding.shift
  split
  · simp [Ideal.ofBits, Ideal.ieee]
  · exact lit_quarter

/-! ## The array -/

/-- The stated sum of the launch memory's arguments on device `c`. -/
def result (c : Dev nD) : Vec Ideal S16384x128 .f32 :=
  Embedding.value (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The arguments on device `c` are labelled and finite. -/
def PlainAt (c : Dev nD) : Prop :=
  Embedding.Plain (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What grid point `t` writes back is its block of the stated sum. -/
theorem flushed_eq (c : Dev nD) (hp : PlainAt m c) (t : Fin cfg0.N) :
    (dats m 0 c).flushed 7 t = ((cfg0.win 7).blk t).view.read (Elt Ideal) (result m c) := by
  rw [Value.flushed7]
  funext y
  rw [View.read_apply]
  have ht : (t : Nat) < 4 := t.isLt
  obtain ⟨i0, i1⟩ := at7 t
  obtain ⟨r, q, hy⟩ : ∃ (r : Fin 4096) (q : Fin 128), y = ix2 r q := ⟨y 0, y 1, eq_ix2 y⟩
  subst hy
  have hn : 4096 * (t : Nat) + r < 16384 := by omega
  have hj : (r : Nat) / 128 < 32 := by omega
  have hpp : (r : Nat) % 128 < 128 := by omega
  have e : ((cfg0.win 7).blk t).view.emb (ix2 r q) = ix2 (⟨4096 * (t : Nat) + r, hn⟩ : Fin 16384) q := by
    refine ix2_ext _ _ ?_ ?_
    · show win0_7.index t 0 * 4096 + 1 * (r : Nat) = 4096 * (t : Nat) + r
      rw [i0]; omega
    · show win0_7.index t 1 * 128 + 1 * (q : Nat) = q
      rw [i1]; omega
  have hw : ∀ (j : Fin 32) (p : Fin 128), 4096 * (t : Nat) + 128 * j + p < 16384 := fun j p => by omega
  have hnn : 4096 * (t : Nat) + (r : Nat) = 4096 * (t : Nat) + 128 * ((⟨(r : Nat) / 128, hj⟩ : Fin 32) : Nat) + ((⟨(r : Nat) % 128, hpp⟩ : Fin 128) : Nat) := by
    show 4096 * (t : Nat) + (r : Nat) = 4096 * (t : Nat) + 128 * ((r : Nat) / 128) + (r : Nat) % 128
    omega
  refine (Group.block_apply _ _ _ _ _ _ _
    (fun i => EReal.toReal (m ((c : Thread nD τ).loc main_arg2) (ix1 (⟨4096 * (t : Nat) + 128 * (i 0 : Nat) + (i 1 : Nat), hw (i 0) (i 1)⟩ : Fin 16384))))
    (fun i => EReal.toReal (m ((c : Thread nD τ).loc main_arg3) i)) (fun i => EReal.toReal (m ((c : Thread nD τ).loc main_arg4) i))
    (fun i => EReal.toReal (m ((c : Thread nD τ).loc main_arg5) i)) (fun i => Embedding.shift (i 1))
    ?_ ?_ ?_ ?_ ?_ ⟨(r : Nat) / 128, hj⟩ ⟨(r : Nat) % 128, hpp⟩ q (row (m ((c : Thread nD τ).loc main_arg0) (ix1 ⟨4096 * (t : Nat) + r, hn⟩)))
    (row (m ((c : Thread nD τ).loc main_arg1) (ix1 ⟨4096 * (t : Nat) + r, hn⟩))) ?_ ?_ r ?_).trans ?_
  · intro i
    rw [eq_ix2 i]
    exact (age_block m c t (i 0) (i 1) ⟨_, hw (i 0) (i 1)⟩ rfl).trans (hp.age _)
  · intro i; exact (genders_block m c t i).trans (hp.genders i)
  · intro i; exact (healths_block m c t i).trans (hp.healths i)
  · intro i; exact (weight_block m c t i).trans (hp.weight i)
  · intro i; exact shift_block m c t i
  · exact (gender_block m c t _ _ _ hnn).trans (eq_row (hp.gender _))
  · exact (health_block m c t _ _ _ hnn).trans (eq_row (hp.health _))
  · show (r : Nat) = 128 * ((r : Nat) / 128) + (r : Nat) % 128
    omega
  · show ((_ : ℝ) : EReal) = result m c (((cfg0.win 7).blk t).view.emb (ix2 r q))
    rw [e]
    unfold result Embedding.value Embedding.entries Embedding.turns
    have hi : (⟨4096 * (t : Nat) + 128 * ((r : Nat) / 128) + (r : Nat) % 128, by omega⟩ : Fin 16384) = ⟨4096 * (t : Nat) + r, hn⟩ := Fin.ext hnn.symm
    exact congrArg (fun k => ((_ + cosTurns (EReal.toReal (m ((c : Thread nD τ).loc main_arg2) (ix1 k)) * _ - _) : ℝ) : EReal)) hi

/-- An index of the result is in grid point `t`'s block when its row is one of the 4096 from `4096 t`. -/
theorem mem_blk (t : Fin cfg0.N) (i : S16384x128.Idx) (h0 : 4096 * (t : Nat) ≤ i 0) (h1 : (i 0 : Nat) < 4096 * (t : Nat) + 4096) :
    i ∈ ((cfg0.win 7).blk t).view.set := by
  show i ∈ ((View.whole main_v4).slice (win0_7.rect t)).set
  rw [View.set_slice_whole, Rect.mem_set_unit]
  obtain ⟨i0, i1⟩ := at7 t
  have hq : (i 1 : Nat) < 128 := (i 1).isLt
  intro a
  fin_cases a
  · show win0_7.index t 0 * 4096 ≤ (i 0 : Nat) ∧ (i 0 : Nat) < win0_7.index t 0 * 4096 + 4096
    rw [i0]; omega
  · show win0_7.index t 1 * 128 ≤ (i 1 : Nat) ∧ (i 1 : Nat) < win0_7.index t 1 * 128 + 128
    rw [i1]; omega

/-- The four blocks cover the result. -/
theorem cover (i : S16384x128.Idx) : ∃ t : Fin cfg0.N, (cfg0.win 7).flush t = true ∧ i ∈ ((cfg0.win 7).blk t).view.set := by
  have h0 : (i 0 : Nat) < 16384 := (i 0).isLt
  have ht : (i 0 : Nat) / 4096 < cfg0.N := by show (i 0 : Nat) / 4096 < 4; omega
  refine ⟨⟨(i 0 : Nat) / 4096, ht⟩, flush0_7 _, mem_blk _ i ?_ ?_⟩
  · show 4096 * ((i 0 : Nat) / 4096) ≤ i 0
    omega
  · show (i 0 : Nat) < 4096 * ((i 0 : Nat) / 4096) + 4096
    omega

/-- So the result array ends holding the stated sum. -/
theorem final (c : Dev nD) (hp : PlainAt m c) : (dats m 0 c).arrAt 7 cfg0.N = result m c :=
  (dats m 0 c).arrAt_eq_of_cover 7 (result m c) (fun t _ => flushed_eq m c hp t) cover

/-- The kernel's run on labelled and finite arguments: the result is the stated sum, the arguments are unchanged. -/
theorem run (hp : ∀ c, PlainAt m c) : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c (hp c)), (h c).2⟩) (Value.run_blocks m ρ)

end Cert.KernelIdeal.Array

end
-- ==== Proof.Take.lean ====
/-
  Rows taken out of a table by label, as the plain reference and the closeness condition both do it: a label 0, 1 or 2
  gives its row.
-/
module

public import proofs.«01_k».proof.Proof.Embedding
public import proofs.«01_k».proof.Proof.Gen.Post_near_reference
public import Idealize.ShloMosaic.Lib.Pointwise
public import Idealize.ShloMosaic.Lib.Routing.Ops

@[expose] public section

set_option maxRecDepth 16384

noncomputable section

namespace Cert.Take

open Cert.Post_near_reference Idealize.ShloMosaic Cert.Turns

variable [Facts]

/-- A label in range is left as it is by the wrap of negative labels, and it passes the range check. -/
theorem label_word (b : BitVec 32) (h : b = 0#32 ∨ b = 1#32 ∨ b = 2#32) :
    Scalar.select (IntOp.cmpi CmpIPredicate.slt b 0#32) (IntOp.addi b 3#32) b = b
      ∧ IntOp.andi (IntOp.cmpi CmpIPredicate.sge b 0#32) (IntOp.cmpi CmpIPredicate.sle b 2#32) = 1#1 := by
  rcases h with rfl | rfl | rfl <;> decide

/-- Taking by a label in range reads the row that the label names. -/
theorem take_apply (x : Vec Ideal S3x128 .f32) (l : Vec Ideal S16384 .i32) (n : Fin 16384) (q : Fin 128)
    (h : l (ix1 n) = 0#32 ∨ l (ix1 n) = 1#32 ∨ l (ix1 n) = 2#32) :
    fn_take (F := Ideal) x l (ix2 n q) = x (ix2 (row (l (ix1 n))) q) := by
  obtain ⟨e, c⟩ := label_word _ h
  pointwise [fn_take, fn_where]
  have one : Finset.fold IntOp.andi (1#1) (fun _ : Fin 1 => 1#1) Finset.univ = 1#1 := by decide
  rw [e, c]
  refine (congrArg (fun b => Scalar.select b _ _) one).trans ?_
  refine Routing.gather_row gather_S3x128_S16384x1_S16384x128_1_0_n_n_0_1_1128 rfl rfl rfl rfl rfl x _ n q (row (l (ix1 n))) ?_ (by norm_num)
  pointwise
  exact e.trans (eq_row h)

end Cert.Take

end
-- ==== Proof.RefValue.lean ====
/-
  The plain reference's result in closed form: on labelled and finite arguments it is the stated sum in every element.
-/
module

public import proofs.«01_k».proof.Proof.Take
public import proofs.«01_k».proof.Proof.Gen.ReferenceIdeal.Run
public import Idealize.ShloMosaic.Lib.Tactic.CleanTypes

@[expose] public section

set_option maxRecDepth 16384

noncomputable section

namespace Cert.ReferenceIdeal.Sum

open Cert.ReferenceIdeal Cert.ReferenceIdeal.Value Cert.ReferenceIdeal.Gen Idealize.ShloMosaic Cert.Turns Cert.Embedding

open Facts

/-- The ages times the weights, in turns: the reference's product of a column and a row. -/
def ages (x2 : FVec Ideal S16384 .f32) (x5 : FVec Ideal S64x1 .f32) : FVec Ideal S16384x64 .f32 :=
  Host.dotGeneral (F := Ideal) dot_S16384x1_S1x64_S16384x64_1_0_0_1_n_n none
    (broadcastInDim S16384x1 ![0] bcast_S16384_S16384x1_0
      (select (cmpf (F := Ideal) .une x2 x2) (broadcastInDim S16384 ![] bcast_S_S16384 (constant S_ .f32 0x00000000#32)) x2))
    (transpose S1x64 [1, 0] x5 transposes_S64x1_S1x64_1_0)

/-- One element of it is the real product. -/
theorem ages_apply (x2 : FVec Ideal S16384 .f32) (x5 : FVec Ideal S64x1 .f32) (h2 : ∀ i, x2 i = ((EReal.toReal (x2 i) : ℝ) : EReal))
    (h5 : ∀ i, x5 i = ((EReal.toReal (x5 i) : ℝ) : EReal)) (n : Fin 16384) (k : Fin 64) :
    ages x2 x5 (ix2 n k) = ((EReal.toReal (x2 (ix1 n)) * EReal.toReal (x5 (ix2 k (0 : Fin 1))) : ℝ) : EReal) := by
  pointwise [ages]
  exact product _ _ (h2 _) (h5 _)

/-- The square of each element's distance to the nearest whole turn. -/
def squares (t : FVec Ideal S16384x64 .f32) : FVec Ideal S16384x64 .f32 :=
  mulf (F := Ideal) (subf (F := Ideal) t (Host.roundeven (F := Ideal) t)) (subf (F := Ideal) t (Host.roundeven (F := Ideal) t))

/-- The cubic of each element, in the order in which the reference evaluates it. -/
def cosines (t : FVec Ideal S16384x64 .f32) : FVec Ideal S16384x64 .f32 :=
  addf (F := Ideal) (broadcastInDim S16384x64 ![] bcast_S_S16384x64 (constant S_ .f32 0x3F7F53CC#32))
    (mulf (F := Ideal) (squares t) (addf (F := Ideal) (broadcastInDim S16384x64 ![] bcast_S_S16384x64 (constant S_ .f32 0xC19C3449#32))
      (mulf (F := Ideal) (squares t) (addf (F := Ideal) (broadcastInDim S16384x64 ![] bcast_S_S16384x64 (constant S_ .f32 0x4273F419#32))
        (mulf (F := Ideal) (squares t) (broadcastInDim S16384x64 ![] bcast_S_S16384x64 (constant S_ .f32 0xC26E236B#32)))))))

/-- At a real number of turns the squared distance is the real one, -/
theorem squares_apply (v : FVec Ideal S16384x64 .f32) (n : Fin 16384) (k : Fin 64) (t : ℝ) (h : v (ix2 n k) = ((t : ℝ) : EReal)) :
    squares v (ix2 n k) = ((turnDist t * turnDist t : ℝ) : EReal) := by
  pointwise [squares]
  rw [h, Ideal.liftRound_coe]
  unfold turnDist
  norm_cast

/-- and the cubic is the real cubic. -/
theorem cosines_apply (v : FVec Ideal S16384x64 .f32) (n : Fin 16384) (k : Fin 64) (t : ℝ) (h : v (ix2 n k) = ((t : ℝ) : EReal)) :
    cosines v (ix2 n k) = ((cosTurns t : ℝ) : EReal) := by
  pointwise [cosines]
  rw [squares_apply v n k t h, lit_c0, lit_c1, lit_c2, lit_c3]
  unfold cosTurns poly
  norm_cast

variable (m : (ℓ : Loc nD τ sig) → Buf (Elt Ideal) ℓ) (c : Dev nD)

/-- The reference's result is the stated sum. -/
theorem result_eq
    (h : Plain (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))) :
    res_main_v38 m c
      = value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext i
  obtain ⟨n, q, hi⟩ : ∃ (n : Fin 16384) (q : Fin 128), i = ix2 n q := ⟨i 0, i 1, eq_ix2 i⟩
  subst hi
  have ht := fun k => ages_apply _ _ h.age h.weight n k
  have e : concatenate S16384x128 1
      [⟨S16384x64, cosines (ages (m ((c.tc : Thread nD τ).loc main_arg2)) (m ((c.tc : Thread nD τ).loc main_arg5)))⟩,
        ⟨S16384x64, cosines (subf (F := Ideal) (ages (m ((c.tc : Thread nD τ).loc main_arg2)) (m ((c.tc : Thread nD τ).loc main_arg5)))
          (broadcastInDim S16384x64 ![] bcast_S_S16384x64 (constant S_ .f32 0x3E800000#32)))⟩]
      concatenates_S16384x64_S16384x64_S16384x128_d1 (ix2 n q)
      = ((cosTurns (turns (m ((c.tc : Thread nD τ).loc main_arg2)) (m ((c.tc : Thread nD τ).loc main_arg5)) n q - shift q) : ℝ) : EReal) := by
    pointwise
    unfold turns shift
    by_cases hq : (q : Nat) < 64
    · rw [dif_pos hq, if_pos hq, sub_zero, ← col_cos (q := q) (k := ⟨q, hq⟩) rfl]
      exact cosines_apply _ _ _ _ (ht _)
    · rw [dif_neg hq, if_neg hq, ← col_sin (q := q) (k := ⟨q - 64, by omega⟩) hq rfl]
      refine cosines_apply _ _ _ _ ?_
      pointwise
      rw [ht, lit_quarter, EReal.coe_sub]
  have eg := (Cert.Take.take_apply _ _ n q (h.gender _)).trans (h.genders _)
  have eh := (Cert.Take.take_apply _ _ n q (h.health _)).trans (h.healths _)
  unfold res_main_v38
  refine (congrArg₂ (fun x y : EReal => x + y) (congrArg₂ (fun x y : EReal => x + y) eg eh) e).trans ?_
  show ((_ : ℝ) : EReal) + ((_ : ℝ) : EReal) + ((_ : ℝ) : EReal) = _
  rw [← EReal.coe_add, ← EReal.coe_add]
  rfl

end Cert.ReferenceIdeal.Sum

end
-- ==== Proof.Labelled.lean ====
/-
  The precondition read: where it is all ones, every label is 0, 1 or 2 and every float is a real number.
-/
module

public import proofs.«01_k».proof.Proof.Embedding
public import proofs.«01_k».proof.Proof.Gen.Pre_labelled
public import Idealize.ShloMosaic.Lib.Pointwise

@[expose] public section

set_option maxRecDepth 16384

noncomputable section

namespace Cert.Labelled

open Cert.Pre_labelled Idealize.ShloMosaic Cert.Turns Cert.Embedding

variable [Facts]

/-- Two bits whose conjunction is one are both one. -/
theorem and_one (a b : BitVec 1) (h : IntOp.andi a b = 1#1) : a = 1#1 ∧ b = 1#1 := by
  revert a b; decide

/-- A word that is at least zero and below three, as signed words are compared, is 0, 1 or 2. -/
theorem label_of_bits (b : BitVec 32) (h0 : IntOp.cmpi CmpIPredicate.sge b 0#32 = 1#1) (h1 : IntOp.cmpi CmpIPredicate.slt b 3#32 = 1#1) :
    b = 0#32 ∨ b = 1#32 ∨ b = 2#32 := by
  have e0 : 0 ≤ b.toInt := by
    by_contra hc
    have : IntOp.cmpi CmpIPredicate.sge b 0#32 = 0#1 := by simp [IntOp.cmpi, BitVec.sle, hc]
    rw [this] at h0
    exact absurd h0 (by decide)
  have e1 : b.toInt < 3 := by
    by_contra hc
    have : IntOp.cmpi CmpIPredicate.slt b 3#32 = 0#1 := by simp [IntOp.cmpi, BitVec.slt, hc]
    rw [this] at h1
    exact absurd h1 (by decide)
  have e : b = BitVec.ofInt 32 b.toInt := BitVec.ofInt_toInt.symm
  have hcases : b.toInt = 0 ∨ b.toInt = 1 ∨ b.toInt = 2 := by omega
  rcases hcases with h | h | h <;> rw [h] at e
  · exact Or.inl e
  · exact Or.inr (Or.inl e)
  · exact Or.inr (Or.inr e)

/-- A number whose absolute value is below infinity is real. -/
theorem real_of_bit (x : EReal) (h : BitVec.ofBool (decide (FloatOps.absf (F := Ideal) (φ := .f32) x < Ideal.ofBits FTy.f32 0x7F800000#32)) = 1#1) :
    x = ((EReal.toReal x : ℝ) : EReal) := by
  have hlt : max x (-x) < ⊤ := by
    by_contra hc
    rw [lit_inf, Ideal.absf_def, decide_eq_false hc] at h
    exact absurd h (by decide)
  refine (EReal.coe_toReal ?_ ?_).symm
  · rintro rfl
    exact absurd hlt (by simp)
  · rintro rfl
    exact absurd hlt (by simp)

/-- Where the precondition is all ones, the arguments are labelled and finite. -/
theorem plain (x0 x1 : IVec S16384 32) (x2 : FVec Ideal S16384 .f32) (x3 x4 : FVec Ideal S3x128 .f32) (x5 : FVec Ideal S64x1 .f32)
    (h : (fn (F := Ideal) x0 x1 x2 x3 x4 x5).1 = (fun _ => 1#1) ∧ (fn (F := Ideal) x0 x1 x2 x3 x4 x5).2.1 = (fun _ => 1#1)
      ∧ (fn (F := Ideal) x0 x1 x2 x3 x4 x5).2.2 = (fun _ => 1#1)) :
    Plain x0 x1 x2 x3 x4 x5 := by
  have rows : ∀ i, (x0 i = 0#32 ∨ x0 i = 1#32 ∨ x0 i = 2#32) ∧ (x1 i = 0#32 ∨ x1 i = 1#32 ∨ x1 i = 2#32)
      ∧ x2 i = ((EReal.toReal (x2 i) : ℝ) : EReal) := by
    intro i
    obtain ⟨n, rfl⟩ : ∃ n : Fin 16384, i = ix1 n := ⟨i 0, eq_ix1 i⟩
    have hn := congrFun h.1 (ix1 n)
    pointwise [fn, fn_part1] at hn
    obtain ⟨hn, ha⟩ := and_one _ _ hn
    obtain ⟨hn, b1⟩ := and_one _ _ hn
    obtain ⟨hn, b0⟩ := and_one _ _ hn
    obtain ⟨a0, a1⟩ := and_one _ _ hn
    exact ⟨label_of_bits _ a0 a1, label_of_bits _ b0 b1, real_of_bit _ ha⟩
  have tables : ∀ i, x3 i = ((EReal.toReal (x3 i) : ℝ) : EReal) ∧ x4 i = ((EReal.toReal (x4 i) : ℝ) : EReal) := by
    intro i
    obtain ⟨a, q, rfl⟩ : ∃ (a : Fin 3) (q : Fin 128), i = ix2 a q := ⟨i 0, i 1, eq_ix2 i⟩
    have hn := congrFun h.2.1 (ix2 a q)
    pointwise [fn, fn_part1] at hn
    obtain ⟨h3, h4⟩ := and_one _ _ hn
    exact ⟨real_of_bit _ h3, real_of_bit _ h4⟩
  refine ⟨fun i => (rows i).1, fun i => (rows i).2.1, fun i => (rows i).2.2, fun i => (tables i).1, fun i => (tables i).2, fun i => ?_⟩
  obtain ⟨k, o, rfl⟩ : ∃ (k : Fin 64) (o : Fin 1), i = ix2 k o := ⟨i 0, i 1, eq_ix2 i⟩
  have hn := congrFun h.2.2 (ix2 k o)
  pointwise [fn, fn_part1] at hn
  exact real_of_bit _ hn

end Cert.Labelled

end
-- ==== Proof.CosBound.lean ====
/-
  How far the cubic's cosine lies from the true one: less than 0.003, plus the rounding of 2π times the phase.
  The true cosine is first set beside its Taylor polynomial of degree 14, at a rational stand-in for 2π; the difference
  of two polynomials is then bounded by halving the interval until the coefficients decide the sign.
-/
module

public import proofs.«01_k».proof.Proof.Turns
public import Mathlib.Analysis.SpecialFunctions.Trigonometric.Basic

@[expose] public section

noncomputable section

namespace Cert.CosBound

open Idealize.ShloMosaic Cert.Turns

/-! ## The sign of an integer polynomial on the unit interval -/

/-- The polynomial with these coefficients, constant term first, at `t`. -/
def eval : List ℤ → ℝ → ℝ
  | [], _ => 0
  | c :: cs, t => c + t * eval cs t

/-- A lower bound of the polynomial on the unit interval. -/
def lower : List ℤ → ℤ
  | [] => 0
  | c :: cs => c + min 0 (lower cs)

/-- The sum of two polynomials. -/
def add : List ℤ → List ℤ → List ℤ
  | [], ds => ds
  | cs, [] => cs
  | c :: cs, d :: ds => (c + d) :: add cs ds

/-- A positive multiple of the polynomial at half its argument. -/
def stretch : List ℤ → List ℤ
  | [] => []
  | c :: cs => (2 ^ (cs.length + 1) * c) :: stretch cs

/-- The polynomial at one more than its argument. -/
def shifted : List ℤ → List ℤ
  | [] => []
  | c :: cs => add [c] (add (shifted cs) (0 :: shifted cs))

/-- Whether `d` halvings of the unit interval show that the polynomial is nowhere negative on it. -/
def nonneg : ℕ → List ℤ → Bool
  | 0, cs => decide (0 ≤ lower cs)
  | d + 1, cs => decide (0 ≤ lower cs) || (nonneg d (stretch cs) && nonneg d (shifted (stretch cs)))

/-- The lower bound is one. -/
theorem lower_le (cs : List ℤ) (t : ℝ) (h0 : 0 ≤ t) (h1 : t ≤ 1) : (lower cs : ℝ) ≤ eval cs t := by
  induction cs with
  | nil => simp [lower, eval]
  | cons c cs ih =>
    simp only [lower, eval, Int.cast_add, Int.cast_min, Int.cast_zero]
    have a : min 0 (lower cs : ℝ) ≤ 0 := min_le_left _ _
    have b : min 0 (lower cs : ℝ) ≤ lower cs := min_le_right _ _
    nlinarith

/-- The sum of two polynomials takes the sum of their values. -/
theorem eval_add (cs ds : List ℤ) (t : ℝ) : eval (add cs ds) t = eval cs t + eval ds t := by
  induction cs generalizing ds with
  | nil => simp [add, eval]
  | cons c cs ih =>
    cases ds with
    | nil => simp [add, eval]
    | cons d ds =>
      simp only [add, eval, ih, Int.cast_add]
      ring

/-- The stretched polynomial takes a positive multiple of the value at half the argument. -/
theorem eval_stretch (cs : List ℤ) (t : ℝ) : eval (stretch cs) t = 2 ^ cs.length * eval cs (t / 2) := by
  induction cs with
  | nil => simp [stretch, eval]
  | cons c cs ih =>
    simp only [stretch, eval, ih, List.length_cons]
    push_cast
    ring

/-- The shifted polynomial takes the value at one more. -/
theorem eval_shifted (cs : List ℤ) (t : ℝ) : eval (shifted cs) t = eval cs (t + 1) := by
  induction cs with
  | nil => rfl
  | cons c cs ih =>
    simp only [shifted, eval_add, eval, ih, Int.cast_zero]
    ring

/-- Where the halvings succeed, the polynomial is not negative on the unit interval. -/
theorem nonneg_sound (d : ℕ) (cs : List ℤ) (h : nonneg d cs = true) (t : ℝ) (h0 : 0 ≤ t) (h1 : t ≤ 1) : 0 ≤ eval cs t := by
  have base : ∀ cs : List ℤ, 0 ≤ lower cs → ∀ t : ℝ, 0 ≤ t → t ≤ 1 → 0 ≤ eval cs t := fun cs h t h0 h1 =>
    le_trans (by exact_mod_cast h) (lower_le cs t h0 h1)
  induction d generalizing cs t with
  | zero => exact base cs (of_decide_eq_true h) t h0 h1
  | succ d ih =>
    rcases (Bool.or_eq_true _ _).mp h with hl | hr
    · exact base cs (of_decide_eq_true hl) t h0 h1
    · obtain ⟨ha, hb⟩ := (Bool.and_eq_true _ _).mp hr
      have hp : (0 : ℝ) < 2 ^ cs.length := by positivity
      rcases le_total t (1 / 2) with ht | ht
      · have e := ih (stretch cs) ha (2 * t) (by linarith) (by linarith)
        rw [eval_stretch, show 2 * t / 2 = t by ring] at e
        exact nonneg_of_mul_nonneg_right e hp
      · have e := ih (shifted (stretch cs)) hb (2 * t - 1) (by linarith) (by linarith)
        rw [eval_shifted, eval_stretch, show (2 * t - 1 + 1) / 2 = t by ring] at e
        exact nonneg_of_mul_nonneg_right e hp

/-! ## The cosine and the sine beside their Taylor polynomials -/

/-- The first `n` terms of the cosine's series. -/
def cosSum (n : ℕ) (y : ℝ) : ℝ := ∑ k ∈ Finset.range n, (-1) ^ k * y ^ (2 * k) / (2 * k).factorial

/-- The first `n` terms of the sine's series. -/
def sinSum (n : ℕ) (y : ℝ) : ℝ := ∑ k ∈ Finset.range n, (-1) ^ k * y ^ (2 * k + 1) / (2 * k + 1).factorial

/-- The first `2 n` terms of the exponential's series at an imaginary number are these two sums. -/
theorem exp_sum (n : ℕ) (y : ℝ) :
    (∑ k ∈ Finset.range (2 * n), ((y : ℂ) * Complex.I) ^ k / k.factorial) = (cosSum n y : ℂ) + (sinSum n y : ℂ) * Complex.I := by
  induction n with
  | zero => simp [cosSum, sinSum]
  | succ n ih =>
    have even : ((y : ℂ) * Complex.I) ^ (2 * n) = (-1) ^ n * (y : ℂ) ^ (2 * n) := by
      rw [mul_pow, pow_mul Complex.I, Complex.I_sq, mul_comm]
    have odd : ((y : ℂ) * Complex.I) ^ (2 * n + 1) = (-1) ^ n * (y : ℂ) ^ (2 * n + 1) * Complex.I := by
      rw [pow_succ, even, pow_succ]; ring
    have ec : cosSum (n + 1) y = cosSum n y + (-1) ^ n * y ^ (2 * n) / (2 * n).factorial := Finset.sum_range_succ _ _
    have es : sinSum (n + 1) y = sinSum n y + (-1) ^ n * y ^ (2 * n + 1) / (2 * n + 1).factorial := Finset.sum_range_succ _ _
    rw [show 2 * (n + 1) = 2 * n + 1 + 1 by ring, Finset.sum_range_succ, Finset.sum_range_succ, ih, even, odd, ec, es]
    push_cast
    ring

/-- The remainder of both sums, where enough terms are taken. -/
theorem series_bound (n : ℕ) (y : ℝ) (h : |y| ≤ n) :
    |Real.cos y - cosSum n y| ≤ |y| ^ (2 * n) / (2 * n).factorial * 2 ∧ |Real.sin y - sinSum n y| ≤ |y| ^ (2 * n) / (2 * n).factorial * 2 := by
  have hn : ‖(y : ℂ) * Complex.I‖ = |y| := by simp
  have hb := Complex.exp_bound' (x := (y : ℂ) * Complex.I) (n := 2 * n) (by
    rw [hn, div_le_iff₀ (by positivity)]
    push_cast
    linarith)
  rw [hn, exp_sum, Complex.exp_mul_I] at hb
  have e : Complex.cos y + Complex.sin y * Complex.I - ((cosSum n y : ℂ) + (sinSum n y : ℂ) * Complex.I)
      = ((Real.cos y - cosSum n y : ℝ) : ℂ) + ((Real.sin y - sinSum n y : ℝ) : ℂ) * Complex.I := by
    push_cast
    ring
  rw [e] at hb
  constructor
  · refine le_trans ?_ ((Complex.abs_re_le_norm _).trans hb)
    rw [Complex.add_re, Complex.ofReal_re, Complex.re_ofReal_mul, Complex.I_re, mul_zero, add_zero]
  · refine le_trans ?_ ((Complex.abs_im_le_norm _).trans hb)
    rw [Complex.add_im, Complex.ofReal_im, Complex.im_ofReal_mul, Complex.I_im, mul_one, zero_add]

/-- The sine is at most its argument in absolute value, -/
theorem abs_sin_le (x : ℝ) : |Real.sin x| ≤ |x| := by
  rcases le_total 1 |x| with h | h
  · exact (Real.abs_sin_le_one x).trans h
  · have b := Real.sin_bound h
    have e : |x - x ^ 3 / 6| = |x| * (1 - |x| ^ 2 / 6) := by
      rw [show x - x ^ 3 / 6 = x * (1 - x ^ 2 / 6) by ring, abs_mul, sq_abs, abs_of_nonneg (a := 1 - x ^ 2 / 6)]
      nlinarith [sq_abs x, abs_nonneg x]
    have t := abs_sub_abs_le_abs_sub (Real.sin x) (x - x ^ 3 / 6)
    have a := abs_nonneg x
    have p : |x| ^ 5 ≤ |x| ^ 3 := pow_le_pow_of_le_one a h (by norm_num)
    have p0 : 0 ≤ |x| ^ 3 := by positivity
    rw [e] at t
    linarith [show |x| * (1 - |x| ^ 2 / 6) = |x| - |x| ^ 3 / 6 by ring]

/-- so the cosine moves no faster than its argument. -/
theorem abs_cos_sub_le (x y : ℝ) : |Real.cos x - Real.cos y| ≤ |x - y| := by
  rw [Real.cos_sub_cos, abs_mul, abs_mul]
  have a := Real.abs_sin_le_one ((x + y) / 2)
  have b := abs_sin_le ((x - y) / 2)
  have c : |(x - y) / 2| = |x - y| / 2 := by rw [abs_div, abs_two]
  rw [c] at b
  have d : |(-2 : ℝ)| = 2 := by norm_num
  rw [d]
  nlinarith [abs_nonneg (Real.sin ((x + y) / 2)), abs_nonneg (Real.sin ((x - y) / 2))]

/-! ## Six digits of π -/

/-- The sine's Taylor remainder after 24 factors, for arguments below 22/7. -/
theorem sin_near (y : ℝ) (h0 : 0 ≤ y) (h : y ≤ 22 / 7) : |Real.sin y - sinSum 12 y| ≤ 1 / 1000000000 := by
  have e : |y| ≤ 22 / 7 := by rwa [abs_of_nonneg h0]
  refine (series_bound 12 y (e.trans (by norm_num))).2.trans ?_
  refine (mul_le_mul_of_nonneg_right (div_le_div_of_nonneg_right (pow_le_pow_left₀ (abs_nonneg _) e _) (by positivity)) (by norm_num)).trans ?_
  norm_num [Nat.factorial]

/-- The sine is positive at 3.1415925, which therefore lies below π, -/
theorem pi_lower : 31415925 / 10000000 < Real.pi := by
  have a := abs_le.mp (sin_near (31415925 / 10000000) (by norm_num) (by norm_num))
  have e : 2 / 1000000000 < sinSum 12 (31415925 / 10000000) := by
    norm_num [sinSum, Finset.sum_range_succ, Nat.factorial]
  by_contra hc
  have hs := Real.sin_nonpos_of_nonpos_of_neg_pi_le (x := 31415925 / 10000000 - 2 * Real.pi)
    (by linarith [Real.two_le_pi]) (by linarith)
  rw [Real.sin_sub_two_pi] at hs
  linarith [a.1]

/-- and negative at 3.1415928, which therefore lies above π. -/
theorem pi_upper : Real.pi < 31415928 / 10000000 := by
  have a := abs_le.mp (sin_near (31415928 / 10000000) (by norm_num) (by norm_num))
  have e : sinSum 12 (31415928 / 10000000) < -(2 / 1000000000) := by
    norm_num [sinSum, Finset.sum_range_succ, Nat.factorial]
  by_contra hc
  have hs := Real.sin_nonneg_of_nonneg_of_le_pi (x := 31415928 / 10000000) (by norm_num) (not_lt.mp hc)
  linarith [a.2]

/-! ## The cubic and the Taylor polynomial -/

/-- The cubic and the Taylor polynomial of the cosine of `(355/113) s` differ by at most 0.0029 for `s` up to one. -/
theorem cubic_taylor (s : ℝ) (h : |s| ≤ 1) : |poly (s / 2 * (s / 2)) - cosSum 8 (355 / 113 * s)| ≤ 29 / 10000 := by
  have h0 : 0 ≤ s ^ 2 := sq_nonneg s
  have h1 : s ^ 2 ≤ 1 := (sq_le_one_iff_abs_le_one s).mpr h
  have a := nonneg_sound 3 [269169484573659583677961507132232731276956, 52789197167932392565865765833001139728055000,
    -244021390675396573690640182818720489361267500, 400248411806638522742293385278272873037490625,
    -232549422997252605662993884896787200000000000, 25501902205192053348542741834928000000000000,
    -1906770674128706908095422293900000000000000, 103401513369462911159636101250000000000000] (by decide +kernel) (s ^ 2) h0 h1
  have b := nonneg_sound 4 [5462280497453520881601383241196635924121956, -52789197167932392565865765833001139728055000,
    244021390675396573690640182818720489361267500, -400248411806638522742293385278272873037490625,
    232549422997252605662993884896787200000000000, -25501902205192053348542741834928000000000000,
    1906770674128706908095422293900000000000000, -103401513369462911159636101250000000000000] (by decide +kernel) (s ^ 2) h0 h1
  have e : cosSum 8 (355 / 113 * s) = 1 - (355 / 113) ^ 2 * s ^ 2 / 2 + (355 / 113) ^ 4 * s ^ 4 / 24 - (355 / 113) ^ 6 * s ^ 6 / 720
      + (355 / 113) ^ 8 * s ^ 8 / 40320 - (355 / 113) ^ 10 * s ^ 10 / 3628800 + (355 / 113) ^ 12 * s ^ 12 / 479001600
      - (355 / 113) ^ 14 * s ^ 14 / 87178291200 := by
    simp only [cosSum, Finset.sum_range_succ, Finset.sum_range_zero, Nat.factorial]
    push_cast
    ring
  simp only [eval] at a b
  push_cast at a b
  rw [e, abs_le]
  unfold poly
  constructor <;> nlinarith [a, b]

/-- The cosine lies within a hundred-thousandth of its Taylor polynomial for `s` up to one. -/
theorem cos_taylor (s : ℝ) (h : |s| ≤ 1) : |Real.cos (355 / 113 * s) - cosSum 8 (355 / 113 * s)| ≤ 1 / 100000 := by
  have e : |355 / 113 * s| ≤ 355 / 113 := by
    rw [abs_mul, abs_of_pos (by norm_num : (0 : ℝ) < 355 / 113)]
    linarith [mul_le_mul_of_nonneg_left h (by norm_num : (0 : ℝ) ≤ 355 / 113)]
  refine (series_bound 8 _ (e.trans (by norm_num))).1.trans ?_
  refine (mul_le_mul_of_nonneg_right (div_le_div_of_nonneg_right (pow_le_pow_left₀ (abs_nonneg _) e _) (by positivity)) (by norm_num)).trans ?_
  norm_num [Nat.factorial]

/-! ## Whole turns and 2π -/

/-- The distance to the nearest whole turn is at most half a turn. -/
theorem turnDist_le (t : ℝ) : |turnDist t| ≤ 1 / 2 := by
  have a := Int.floor_le t
  have b := Int.lt_floor_add_one t
  unfold turnDist Ideal.roundHalfEven
  dsimp only
  split_ifs <;> rw [abs_le] <;> push_cast <;> constructor <;> linarith

/-- The cubic's cosine lies within 0.00292 of the cosine of the exact phase. -/
theorem cosTurns_near (t : ℝ) : |cosTurns t - Real.cos (2 * Real.pi * t)| ≤ 292 / 100000 := by
  have turn : Real.cos (2 * Real.pi * t) = Real.cos (2 * Real.pi * turnDist t) := by
    rw [show 2 * Real.pi * turnDist t = 2 * Real.pi * t - (Ideal.roundHalfEven t : ℤ) * (2 * Real.pi) by unfold turnDist; ring,
      Real.cos_sub_int_mul_two_pi]
  have hr := turnDist_le t
  have hs : |2 * turnDist t| ≤ 1 := by
    rw [abs_mul, abs_two]
    linarith
  have a := cubic_taylor _ hs
  have b := cos_taylor _ hs
  have d : |355 / 113 * (2 * turnDist t) - 2 * Real.pi * turnDist t| ≤ 1 / 1000000 := by
    rw [show 355 / 113 * (2 * turnDist t) - 2 * Real.pi * turnDist t = (2 * (355 / 113 - Real.pi)) * turnDist t by ring, abs_mul]
    have p : |2 * (355 / 113 - Real.pi)| ≤ 1 / 1000000 := by
      rw [abs_le]
      constructor <;> linarith [pi_lower, pi_upper]
    nlinarith [abs_nonneg (turnDist t), abs_nonneg (2 * (355 / 113 - Real.pi))]
  have c := (abs_cos_sub_le (355 / 113 * (2 * turnDist t)) (2 * Real.pi * turnDist t)).trans d
  rw [show 2 * turnDist t / 2 = turnDist t by ring] at a
  rw [turn]
  unfold cosTurns
  rw [abs_le] at a b c ⊢
  constructor <;> linarith [a.1, a.2, b.1, b.2, c.1, c.2]

/-- The phase that uses the rounded 2π lies within the slack of the exact phase, -/
theorem phase_near (u : ℝ) : |2 * Real.pi * u - 13176795 / 2097152 * u| ≤ 14073749 / 140737488355328 * |13176795 / 2097152 * u| := by
  have p : |2 * Real.pi - 13176795 / 2097152| ≤ 14073749 / 140737488355328 * (13176795 / 2097152) := by
    rw [abs_le]
    constructor <;> linarith [pi_lower, pi_upper]
  rw [← sub_mul, abs_mul, abs_mul, abs_of_pos (by norm_num : (0 : ℝ) < 13176795 / 2097152), ← mul_assoc]
  exact mul_le_mul_of_nonneg_right p (abs_nonneg u)

/-- so its cosine does, -/
theorem cos_phase (u : ℝ) :
    |Real.cos (2 * Real.pi * u) - Real.cos (13176795 / 2097152 * u)| ≤ 14073749 / 140737488355328 * |13176795 / 2097152 * u| :=
  (abs_cos_sub_le _ _).trans (phase_near u)

/-- and so does its sine. -/
theorem sin_phase (u : ℝ) :
    |Real.sin (2 * Real.pi * u) - Real.sin (13176795 / 2097152 * u)| ≤ 14073749 / 140737488355328 * |13176795 / 2097152 * u| := by
  rw [← Real.cos_sub_pi_div_two, ← Real.cos_sub_pi_div_two]
  refine (abs_cos_sub_le _ _).trans ?_
  rw [sub_sub_sub_cancel_right]
  exact phase_near u

/-- The cubic's cosine of `u` turns is near the cosine of the rounded phase, -/
theorem near_cos (u : ℝ) :
    |cosTurns u - Real.cos (13176795 / 2097152 * u)| ≤ 6442451 / 2147483648 + 14073749 / 140737488355328 * |13176795 / 2097152 * u| := by
  have a := cosTurns_near u
  have b := cos_phase u
  refine (abs_sub_le _ (Real.cos (2 * Real.pi * u)) _).trans (add_le_add (a.trans ?_) b)
  norm_num

/-- and, a quarter turn back, near its sine. -/
theorem near_sin (u : ℝ) :
    |cosTurns (u - 1 / 4) - Real.sin (13176795 / 2097152 * u)| ≤ 6442451 / 2147483648 + 14073749 / 140737488355328 * |13176795 / 2097152 * u| := by
  have a := cosTurns_near (u - 1 / 4)
  rw [show 2 * Real.pi * (u - 1 / 4) = 2 * Real.pi * u - Real.pi / 2 by ring, Real.cos_sub_pi_div_two] at a
  have b := sin_phase u
  refine (abs_sub_le _ (Real.sin (2 * Real.pi * u)) _).trans (add_le_add (a.trans ?_) b)
  norm_num

end Cert.CosBound

end
-- ==== Proof.Near.lean ====
/-
  The closeness condition read at an element: on labelled and finite arguments the stated sum lies within 0.003, plus a
  ten-millionth of the phase, of the two table rows plus the true cosine or sine.
-/
module

public import proofs.«01_k».proof.Proof.Take
public import proofs.«01_k».proof.Proof.CosBound

@[expose] public section

set_option maxRecDepth 16384

noncomputable section

namespace Cert.Near

open Cert.Post_near_reference Idealize.ShloMosaic Cert.Turns Cert.Embedding

variable [Facts]

/-- The absolute value of a real number among the extended reals. -/
theorem abs_coe (x : ℝ) : FloatOps.absf (F := Ideal) (φ := .f32) ((x : ℝ) : EReal) = ((|x| : ℝ) : EReal) := by
  rw [Ideal.absf_def, abs_eq_max_neg, ← EReal.coe_neg]
  exact (EReal.coe_strictMono.monotone.map_max).symm

/-- The comparison of one element, over the reals: with equal table entries on both sides it is the distance of the two
cosines, where `v` is the stated sum, `w` the table rows and `t` the true cosine (or sine) of the phase `f`. -/
theorem bit_of_le (e c k f : ℝ) {v w t p : EReal} (hv : v = ((e + c : ℝ) : EReal)) (hw : w = ((e : ℝ) : EReal))
    (ht : t = ((k : ℝ) : EReal)) (hp : p = ((f : ℝ) : EReal)) (h : |c - k| ≤ 6442451 / 2147483648 + 14073749 / 140737488355328 * |f|) :
    BitVec.ofBool (decide (FloatOps.absf (F := Ideal) (φ := .f32) (v - (w + t))
      ≤ Ideal.ofBits FTy.f32 0x3B449BA6#32 + Ideal.ofBits FTy.f32 0x33D6BF95#32 * FloatOps.absf (F := Ideal) (φ := .f32) p)) = 1#1 := by
  subst hv hw ht hp
  have hle : FloatOps.absf (F := Ideal) (φ := .f32) (((e + c : ℝ) : EReal) - (((e : ℝ) : EReal) + ((k : ℝ) : EReal)))
      ≤ Ideal.ofBits FTy.f32 0x3B449BA6#32 + Ideal.ofBits FTy.f32 0x33D6BF95#32 * FloatOps.absf (F := Ideal) (φ := .f32) ((f : ℝ) : EReal) := by
    rw [lit_bound, lit_slack, ← EReal.coe_add, ← EReal.coe_sub, abs_coe, abs_coe, ← EReal.coe_mul, ← EReal.coe_add,
      show e + c - (e + k) = c - k by ring]
    exact EReal.coe_le_coe_iff.mpr h
  rw [decide_eq_true hle]
  rfl

/-- The phase of row `n` in column `q` is the rounded 2π times its turns, whatever name `k` the weight's column goes by. -/
theorem phase_eq {x0 x1 : IVec S16384 32} {x2 : FVec Ideal S16384 .f32} {x3 x4 : FVec Ideal S3x128 .f32} {x5 : FVec Ideal S64x1 .f32}
    (h : Plain x0 x1 x2 x3 x4 x5) (n : Fin 16384) {q : Fin 128} {k : Fin 64} (hk : k = col q) :
    Ideal.ofBits FTy.f32 0x40C90FDB#32 * (∑ _k : Fin 1, (if x2 (ix1 n) ≠ x2 (ix1 n) then 0 else x2 (ix1 n)) * x5 (ix2 k (0 : Fin 1)))
      = ((13176795 / 2097152 * turns x2 x5 n q : ℝ) : EReal) := by
  rw [product _ _ (h.age _) (h.weight _), lit_twoPi, ← EReal.coe_mul, hk]
  rfl

/-- The closeness condition holds of the stated sum. -/
theorem near (x0 x1 : IVec S16384 32) (x2 : FVec Ideal S16384 .f32) (x3 x4 : FVec Ideal S3x128 .f32) (x5 : FVec Ideal S64x1 .f32)
    (h : Plain x0 x1 x2 x3 x4 x5) :
    fn (F := Ideal) x0 x1 x2 x3 x4 x5 (value x0 x1 x2 x3 x4 x5) = fun _ => 1#1 := by
  funext i
  obtain ⟨n, q, rfl⟩ : ∃ (n : Fin 16384) (q : Fin 128), i = ix2 n q := ⟨i 0, i 1, eq_ix2 i⟩
  have hv : value x0 x1 x2 x3 x4 x5 (ix2 n q) = ((entries x0 x1 x3 x4 n q + cosTurns (turns x2 x5 n q - shift q) : ℝ) : EReal) := rfl
  have he : fn_take (F := Ideal) x3 x0 (ix2 n q) + fn_take (F := Ideal) x4 x1 (ix2 n q) = ((entries x0 x1 x3 x4 n q : ℝ) : EReal) := by
    rw [Cert.Take.take_apply x3 x0 n q (h.gender _), Cert.Take.take_apply x4 x1 n q (h.health _), h.genders, h.healths, ← EReal.coe_add]
    rfl
  pointwise [fn, fn_part1, fn_where_0]
  by_cases hq : (q : Nat) < 64
  · have hp := phase_eq h n (col_cos (q := q) (k := ⟨q, hq⟩) rfl)
    rw [dif_pos hq, dif_pos hq]
    rw [show shift q = 0 from if_pos hq, sub_zero] at hv
    exact bit_of_le _ _ _ _ hv he ((congrArg Ideal.cos hp).trans (Ideal.cos_coe _)) hp (CosBound.near_cos _)
  · have hp := phase_eq h n (col_sin (q := q) (k := ⟨(q : Nat) - 64, by omega⟩) hq rfl)
    rw [dif_neg hq, dif_neg hq]
    rw [show shift q = 1 / 4 from if_neg hq] at hv
    exact bit_of_le _ _ _ _ hv he ((congrArg Ideal.sin hp).trans (Ideal.sin_coe _)) hp (CosBound.near_sin _)

end Cert.Near

end
-- ==== Proof.lean ====
/-
  The proof of `Cert.Claim`: the frames of the kernel, of its idealization and of the reference; the kernel's equality
  with the plain reference over the extended reals; and the closeness of its result to the sum with the true cosine and sine.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_labelled
public import proofs.«01_k».proof.Proof.Gen.Post_near_reference
public import proofs.«01_k».proof.Proof.Array
public import proofs.«01_k».proof.Proof.RefValue
public import proofs.«01_k».proof.Proof.Labelled
public import proofs.«01_k».proof.Proof.Near
public import Idealize.ShloMosaic.Adequacy
public import Idealize.ShloMosaic.Init

@[expose] public section

noncomputable section

namespace Cert.Proof

open Idealize.ShloMosaic Idealize.SL.Sem Cert.Kernel

/-- The reference runs, leaves its arguments unchanged, and ends with every semaphore at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On labelled and finite arguments the kernel and the plain reference end with the same result. -/
theorem algebraic : Cert.algebraic_KernelIdeal_ReferenceIdeal_pre_labelled := fun m g m' g' hpre hargs => by
  have hp : ∀ c, Cert.KernelIdeal.Array.PlainAt m c := fun c => Cert.Labelled.plain _ _ _ _ _ _ (hpre c)
  refine ⟨fun c => Cert.KernelIdeal.Array.result m c, Cert.KernelIdeal.Array.run m g hp, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5⟩ := hargs c
  have hp' := hp c
  show Cert.ReferenceIdeal.Value.res_main_v38 m' c = Cert.KernelIdeal.Array.result m c
  unfold Cert.KernelIdeal.Array.PlainAt at hp'
  unfold Cert.KernelIdeal.Array.result
  rw [← e0, ← e1, ← e2, ← e3, ← e4, ← e5] at hp' ⊢
  exact Cert.ReferenceIdeal.Sum.result_eq m' c hp'

/-- On labelled and finite arguments the kernel's result satisfies the closeness condition. -/
theorem near : Cert.holds_KernelIdeal_near_reference_pre_labelled := fun m g hpre => by
  have hp : ∀ c, Cert.KernelIdeal.Array.PlainAt m c := fun c => Cert.Labelled.plain _ _ _ _ _ _ (hpre c)
  refine (θ_run Cert.KernelIdeal.defs _ _).mono (fun r h c => ?_) (Cert.KernelIdeal.Array.run m g hp)
  obtain ⟨e, e0, e1, e2, e3, e4, e5⟩ := h c
  refine ⟨e0, e1, e2, e3, e4, e5, ?_⟩
  rw [e]
  exact Cert.Near.near _ _ _ _ _ _ (hp c)

/-- Everything that the certificate claims. -/
theorem claim : Cert.Claim := ⟨Cert.Kernel.Gen.facts, Cert.KernelIdeal.Gen.facts, Cert.ReferenceIdeal.Gen.facts, Cert.Pre_labelled.Gen.facts, Cert.Post_near_reference.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic, near⟩

end Cert.Proof

end
